-- ==== Defs.lean ====
def Pre_Kernel [hPre_sizes_ok : Cert.Pre_sizes_ok.Facts] (m : (ℓ : Loc Cert.Kernel.nD Cert.Kernel.τ Cert.Kernel.sig) → Buf (Elt Bits) ℓ) : Prop :=
  ∀ c : Dev Cert.Kernel.nD,
    (Cert.Pre_sizes_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_sizes_ok : Cert.Pre_sizes_ok.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_ok [hPre_sizes_ok : Cert.Pre_sizes_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_sizes_ok : Cert.Pre_sizes_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_sizes_ok : Cert.Pre_sizes_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sizes_ok [hReferenceIdeal : Cert.ReferenceIdeal.Facts] [hPre_sizes_ok : Cert.Pre_sizes_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sizes_ok : Cert.Pre_sizes_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sizes_ok : Cert.Pre_sizes_ok.Facts),
    quiescent_Kernel (hKernel := hKernel) (hPre_sizes_ok := hPre_sizes_ok)
    ∧ quiescent_KernelIdeal (hKernelIdeal := hKernelIdeal) (hPre_sizes_ok := hPre_sizes_ok)
    ∧ quiescent_ReferenceIdeal (hReferenceIdeal := hReferenceIdeal)
    ∧ quiescent_ReferenceIdeal_pre_sizes_ok (hReferenceIdeal := hReferenceIdeal) (hPre_sizes_ok := hPre_sizes_ok)
    ∧ preserves_Kernel_KernelIdeal
    ∧ algebraic_KernelIdeal_ReferenceIdeal (hKernelIdeal := hKernelIdeal) (hReferenceIdeal := hReferenceIdeal) (hPre_sizes_ok := hPre_sizes_ok)
-- ==== Pre_sizes_ok.lean ====
abbrev S32768x2816 : Shape := ⟨2, ![32768, 2816]⟩
abbrev S32768x1 : Shape := ⟨2, ![32768, 1]⟩
abbrev S4x2816x5632 : Shape := ⟨3, ![4, 2816, 5632]⟩
abbrev S4x5632 : Shape := ⟨2, ![4, 5632]⟩
abbrev S4 : Shape := ⟨1, ![4]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel

variable [Facts]

def fn {F : FTy → Type} [FloatOps F] (main_arg0 : FVec F S32768x2816 .fp8e4m3) (main_arg1 : FVec F S32768x1 .f32) (main_arg2 : FVec F S4x2816x5632 .fp8e4m3) (main_arg3 : FVec F S4x5632 .f32) (main_arg4 : IVec S4 32) : IVec S_ 1 :=
  let main_c : IVec S_ 32 := constantI S_ 32 0#32
  let main_v0 : IVec S4 32 := broadcastInDim S4 ![] bcast_S_S4 main_c
  let main_v1 : IVec S4 1 := cmpi .sge main_arg4 main_v0
  let main_c_0 : IVec S_ 1 := constantI S_ 1 1#1
  let main_v2 : IVec S_ 1 := (fun x v => Host.reduce IntOp.andi x v reducesTo_S4_S_d0 h_S_) main_v1 main_c_0
  let main_c_1 : IVec S_ 32 := constantI S_ 32 0#32
  let main_v3 : IVec S_ 32 := (fun x v => Host.reduce IntOp.addi x v reducesTo_S4_S_d0 h_S_) main_arg4 main_c_1
  let main_c_2 : IVec S_ 32 := constantI S_ 32 32768#32
  let main_v4 : IVec S_ 1 := cmpi .eq main_v3 main_c_2
  let main_v5 : IVec S_ 1 := andi main_v2 main_v4
  let main_c_3 : IVec S_ 32 := constantI S_ 32 32768#32
  let main_v6 : IVec S4 32 := broadcastInDim S4 ![] bcast_S_S4 main_c_3
  let main_v7 : IVec S4 1 := cmpi .sle main_arg4 main_v6
  let main_c_4 : IVec S_ 1 := constantI S_ 1 1#1
  let main_v8 : IVec S_ 1 := (fun x v => Host.reduce IntOp.andi x v reducesTo_S4_S_d0 h_S_) main_v7 main_c_4
  let main_v9 : IVec S_ 1 := andi main_v5 main_v8
  main_v9
-- ==== Kernel.lean ====
abbrev S32768x2816 : Shape := ⟨2, ![32768, 2816]⟩
abbrev S32768x1 : Shape := ⟨2, ![32768, 1]⟩
abbrev S4x2816x5632 : Shape := ⟨3, ![4, 2816, 5632]⟩
abbrev S4x5632 : Shape := ⟨2, ![4, 5632]⟩
abbrev S4 : Shape := ⟨1, ![4]⟩
abbrev S_ : Shape := ⟨0, ![]⟩
abbrev S67 : Shape := ⟨1, ![67]⟩
abbrev S1 : Shape := ⟨1, ![1]⟩
abbrev S67x1 : Shape := ⟨2, ![67, 1]⟩
abbrev S1x4 : Shape := ⟨2, ![1, 4]⟩
abbrev S67x4 : Shape := ⟨2, ![67, 4]⟩
abbrev S66 : Shape := ⟨1, ![66]⟩
abbrev S1x67 : Shape := ⟨2, ![1, 67]⟩
abbrev S5x67 : Shape := ⟨2, ![5, 67]⟩
abbrev S4x1x5632 : Shape := ⟨3, ![4, 1, 5632]⟩
abbrev S32768x5632 : Shape := ⟨2, ![32768, 5632]⟩
abbrev S512x2816 : Shape := ⟨2, ![512, 2816]⟩
abbrev S1x1 : Shape := ⟨2, ![1, 1]⟩
abbrev S512x1 : Shape := ⟨2, ![512, 1]⟩
abbrev S1x2816x5632 : Shape := ⟨3, ![1, 2816, 5632]⟩
abbrev S1x1x5632 : Shape := ⟨3, ![1, 1, 5632]⟩
abbrev S512x5632 : Shape := ⟨2, ![512, 5632]⟩
abbrev S1x2816x512 : Shape := ⟨3, ![1, 2816, 512]⟩
abbrev S2816x512 : Shape := ⟨2, ![2816, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 168
  | .vmem => 10
  | .smem => 1
  | _ => 0

abbrev hbmTy0_0 (i : Nat) : BufTy := match i % 128 with
  | 0 => ⟨S32768x2816, .fp8e4m3⟩
  | 1 => ⟨S32768x1, .f32⟩
  | 2 => ⟨S4x2816x5632, .fp8e4m3⟩
  | 3 => ⟨S4x5632, .f32⟩
  | 4 => ⟨S4, .i32⟩
  | 5 => ⟨S_, .i32⟩
  | 6 => ⟨S_, .i32⟩
  | 7 => ⟨S4, .i32⟩
  | 8 => ⟨S4, .i32⟩
  | 9 => ⟨S_, .i32⟩
  | 10 => ⟨S_, .i32⟩
  | 11 => ⟨S4, .i32⟩
  | 12 => ⟨S4, .i32⟩
  | 13 => ⟨S4, .i32⟩
  | 14 => ⟨S_, .i32⟩
  | 15 => ⟨S4, .i32⟩
  | 16 => ⟨S4, .i1⟩
  | 17 => ⟨S4, .i32⟩
  | 18 => ⟨S4, .i32⟩
  | 19 => ⟨S_, .i32⟩
  | 20 => ⟨S4, .i32⟩
  | 21 => ⟨S4, .i1⟩
  | 22 => ⟨S4, .i1⟩
  | 23 => ⟨S_, .i32⟩
  | 24 => ⟨S4, .i32⟩
  | 25 => ⟨S4, .i32⟩
  | 26 => ⟨S4, .i32⟩
  | 27 => ⟨S_, .i32⟩
  | 28 => ⟨S4, .i32⟩
  | 29 => ⟨S4, .i1⟩
  | 30 => ⟨S_, .i32⟩
  | 31 => ⟨S4, .i32⟩
  | 32 => ⟨S4, .i32⟩
  | 33 => ⟨S_, .i32⟩
  | 34 => ⟨S4, .i32⟩
  | 35 => ⟨S4, .i32⟩
  | 36 => ⟨S_, .i32⟩
  | 37 => ⟨S_, .i32⟩
  | 38 => ⟨S4, .i32⟩
  | 39 => ⟨S4, .i32⟩
  | 40 => ⟨S4, .i32⟩
  | 41 => ⟨S_, .i32⟩
  | 42 => ⟨S4, .i32⟩
  | 43 => ⟨S4, .i1⟩
  | 44 => ⟨S4, .i32⟩
  | 45 => ⟨S4, .i32⟩
  | 46 => ⟨S_, .i32⟩
  | 47 => ⟨S4, .i32⟩
  | 48 => ⟨S4, .i1⟩
  | 49 => ⟨S4, .i1⟩
  | 50 => ⟨S_, .i32⟩
  | 51 => ⟨S4, .i32⟩
  | 52 => ⟨S4, .i32⟩
  | 53 => ⟨S4, .i32⟩
  | 54 => ⟨S4, .i32⟩
  | 55 => ⟨S_, .i32⟩
  | 56 => ⟨S_, .i32⟩
  | 57 => ⟨S4, .i32⟩
  | 58 => ⟨S4, .i32⟩
  | 59 => ⟨S_, .i32⟩
  | 60 => ⟨S_, .i32⟩
  | 61 => ⟨S4, .i32⟩
  | 62 => ⟨S67, .i32⟩
  | 63 => ⟨S1, .i32⟩
  | 64 => ⟨S_, .i32⟩
  | 65 => ⟨S67, .i32⟩
  | 66 => ⟨S67, .i1⟩
  | 67 => ⟨S1, .i32⟩
  | 68 => ⟨S_, .i32⟩
  | 69 => ⟨S_, .i32⟩
  | 70 => ⟨S_, .i32⟩
  | 71 => ⟨S67, .i32⟩
  | 72 => ⟨S67, .i32⟩
  | 73 => ⟨S67x1, .i32⟩
  | 74 => ⟨S1x4, .i32⟩
  | 75 => ⟨S67x4, .i32⟩
  | 76 => ⟨S67x4, .i32⟩
  | 77 => ⟨S67x4, .i1⟩
  | 78 => ⟨S67x4, .i32⟩
  | 79 => ⟨S_, .i32⟩
  | 80 => ⟨S67, .i32⟩
  | 81 => ⟨S_, .i32⟩
  | 82 => ⟨S67, .i32⟩
  | 83 => ⟨S67, .i1⟩
  | 84 => ⟨S_, .i32⟩
  | 85 => ⟨S67, .i32⟩
  | 86 => ⟨S67, .i32⟩
  | 87 => ⟨S67, .i32⟩
  | 88 => ⟨S67x1, .i32⟩
  | 89 => ⟨S67, .i32⟩
  | 90 => ⟨S67, .i32⟩
  | 91 => ⟨S_, .i32⟩
  | 92 => ⟨S67, .i32⟩
  | 93 => ⟨S67, .i1⟩
  | 94 => ⟨S_, .i32⟩
  | 95 => ⟨S67, .i32⟩
  | 96 => ⟨S67, .i32⟩
  | 97 => ⟨S67, .i32⟩
  | 98 => ⟨S67x1, .i32⟩
  | 99 => ⟨S67, .i32⟩
  | 100 => ⟨S_, .i32⟩
  | 101 => ⟨S67, .i32⟩
  | 102 => ⟨S67, .i1⟩
  | 103 => ⟨S_, .i32⟩
  | 104 => ⟨S67, .i32⟩
  | 105 => ⟨S67, .i32⟩
  | 106 => ⟨S67, .i32⟩
  | 107 => ⟨S67x1, .i32⟩
  | 108 => ⟨S67, .i32⟩
  | 109 => ⟨S67, .i32⟩
  | 110 => ⟨S67, .i32⟩
  | 111 => ⟨S_, .i32⟩
  | 112 => ⟨S67, .i32⟩
  | 113 => ⟨S67, .i1⟩
  | 114 => ⟨S_, .i32⟩
  | 115 => ⟨S67, .i32⟩
  | 116 => ⟨S67, .i32⟩
  | 117 => ⟨S67, .i32⟩
  | 118 => ⟨S67x1, .i32⟩
  | 119 => ⟨S67, .i32⟩
  | 120 => ⟨S_, .i32⟩
  | 121 => ⟨S67, .i32⟩
  | 122 => ⟨S67, .i32⟩
  | 123 => ⟨S67, .i32⟩
  | 124 => ⟨S_, .i32⟩
  | 125 => ⟨S_, .i32⟩
  | 126 => ⟨S_, .i32⟩
  | 127 => ⟨S67, .i32⟩
  | _ => ⟨S32768x2816, .fp8e4m3⟩

abbrev hbmTy0_1 (i : Nat) : BufTy := match i % 128 with
  | 0 => ⟨S67, .i32⟩
  | 1 => ⟨S_, .i32⟩
  | 2 => ⟨S67, .i32⟩
  | 3 => ⟨S67, .i32⟩
  | 4 => ⟨S_, .i32⟩
  | 5 => ⟨S67, .i32⟩
  | 6 => ⟨S67, .i1⟩
  | 7 => ⟨S_, .i32⟩
  | 8 => ⟨S67, .i32⟩
  | 9 => ⟨S67, .i32⟩
  | 10 => ⟨S67, .i32⟩
  | 11 => ⟨S67x1, .i32⟩
  | 12 => ⟨S67, .i32⟩
  | 13 => ⟨S_, .i32⟩
  | 14 => ⟨S67, .i32⟩
  | 15 => ⟨S67, .i32⟩
  | 16 => ⟨S67, .i32⟩
  | 17 => ⟨S_, .i32⟩
  | 18 => ⟨S_, .i32⟩
  | 19 => ⟨S_, .i32⟩
  | 20 => ⟨S67, .i32⟩
  | 21 => ⟨S67, .i32⟩
  | 22 => ⟨S_, .i32⟩
  | 23 => ⟨S67, .i32⟩
  | 24 => ⟨S67, .i32⟩
  | 25 => ⟨S67, .i32⟩
  | 26 => ⟨S_, .i1⟩
  | 27 => ⟨S1, .i1⟩
  | 28 => ⟨S66, .i32⟩
  | 29 => ⟨S66, .i32⟩
  | 30 => ⟨S66, .i1⟩
  | 31 => ⟨S67, .i1⟩
  | 32 => ⟨S67, .i32⟩
  | 33 => ⟨S1x67, .i32⟩
  | 34 => ⟨S1x67, .i32⟩
  | 35 => ⟨S1x67, .i32⟩
  | 36 => ⟨S1x67, .i32⟩
  | 37 => ⟨S1x67, .i32⟩
  | 38 => ⟨S4x1x5632, .f32⟩
  | 39 => ⟨S32768x5632, .bf16⟩
  | _ => ⟨S32768x2816, .fp8e4m3⟩

abbrev hbmTy (i : Nat) : BufTy := match i / 128 with
  | 0 => hbmTy0_0 i
  | 1 => hbmTy0_1 i
  | _ => ⟨S32768x2816, .fp8e4m3⟩

abbrev bufTy : (tb : Table) → Fin (tcTables nBuf tb) → BufTy
  | .hbm, ⟨i, _⟩ => hbmTy i
  | .local _ .vmem, ⟨0, _⟩ => ⟨S512x2816, .fp8e4m3⟩
  | .local _ .vmem, ⟨1, _⟩ => ⟨S512x2816, .fp8e4m3⟩
  | .local _ .vmem, ⟨2, _⟩ => ⟨S512x1, .f32⟩
  | .local _ .vmem, ⟨3, _⟩ => ⟨S512x1, .f32⟩
  | .local _ .vmem, ⟨4, _⟩ => ⟨S1x2816x5632, .fp8e4m3⟩
  | .local _ .vmem, ⟨5, _⟩ => ⟨S1x2816x5632, .fp8e4m3⟩
  | .local _ .vmem, ⟨6, _⟩ => ⟨S1x1x5632, .f32⟩
  | .local _ .vmem, ⟨7, _⟩ => ⟨S1x1x5632, .f32⟩
  | .local _ .vmem, ⟨8, _⟩ => ⟨S512x5632, .bf16⟩
  | .local _ .vmem, ⟨9, _⟩ => ⟨S512x5632, .bf16⟩
  | .local _ .smem, ⟨0, _⟩ => ⟨S5x67, .i32⟩
  | _, _ => ⟨S32768x2816, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_c : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_0 : Ref sig .tc := ⟨.hbm, 23, rfl⟩
abbrev main_call1_v12 : Ref sig .tc := ⟨.hbm, 24, rfl⟩
abbrev main_call1_v13 : Ref sig .tc := ⟨.hbm, 25, rfl⟩
abbrev main_v2 : Ref sig .tc := ⟨.hbm, 26, rfl⟩
abbrev main_c_0 : Ref sig .tc := ⟨.hbm, 27, rfl⟩
abbrev main_v3 : Ref sig .tc := ⟨.hbm, 28, rfl⟩
abbrev main_v4 : Ref sig .tc := ⟨.hbm, 29, rfl⟩
abbrev main_c_1 : Ref sig .tc := ⟨.hbm, 30, rfl⟩
abbrev main_v5 : Ref sig .tc := ⟨.hbm, 31, rfl⟩
abbrev main_v6 : Ref sig .tc := ⟨.hbm, 32, rfl⟩
abbrev main_c_2 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_c : Ref sig .tc := ⟨.hbm, 46, rfl⟩
abbrev main_call2_v9 : Ref sig .tc := ⟨.hbm, 47, rfl⟩
abbrev main_call2_v10 : Ref sig .tc := ⟨.hbm, 48, rfl⟩
abbrev main_call2_v11 : Ref sig .tc := ⟨.hbm, 49, rfl⟩
abbrev main_call2_c_0 : Ref sig .tc := ⟨.hbm, 50, rfl⟩
abbrev main_call2_v12 : Ref sig .tc := ⟨.hbm, 51, rfl⟩
abbrev main_call2_v13 : Ref sig .tc := ⟨.hbm, 52, rfl⟩
abbrev main_v9 : Ref sig .tc := ⟨.hbm, 53, rfl⟩
abbrev main_v10 : Ref sig .tc := ⟨.hbm, 54, rfl⟩
abbrev main_c_4 : Ref sig .tc := ⟨.hbm, 55, rfl⟩
abbrev main_call3_v0 : Ref sig .tc := ⟨.hbm, 56, rfl⟩
abbrev main_call3_v1 : Ref sig .tc := ⟨.hbm, 57, rfl⟩
abbrev main_v11 : Ref sig .tc := ⟨.hbm, 58, rfl⟩
abbrev main_call4_call0_c : Ref sig .tc := ⟨.hbm, 59, rfl⟩
abbrev main_call4_call0_v0 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_c_5 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_c_6 : Ref sig .tc := ⟨.hbm, 79, rfl⟩
abbrev main_v29 : Ref sig .tc := ⟨.hbm, 80, rfl⟩
abbrev main_c_7 : Ref sig .tc := ⟨.hbm, 81, rfl⟩
abbrev main_v30 : Ref sig .tc := ⟨.hbm, 82, rfl⟩
abbrev main_v31 : Ref sig .tc := ⟨.hbm, 83, rfl⟩
abbrev main_c_8 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_c_9 : Ref sig .tc := ⟨.hbm, 91, rfl⟩
abbrev main_v38 : Ref sig .tc := ⟨.hbm, 92, rfl⟩
abbrev main_v39 : Ref sig .tc := ⟨.hbm, 93, rfl⟩
abbrev main_c_10 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_c_11 : Ref sig .tc := ⟨.hbm, 100, rfl⟩
abbrev main_v45 : Ref sig .tc := ⟨.hbm, 101, rfl⟩
abbrev main_v46 : Ref sig .tc := ⟨.hbm, 102, rfl⟩
abbrev main_c_12 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_c_13 : Ref sig .tc := ⟨.hbm, 111, rfl⟩
abbrev main_v54 : Ref sig .tc := ⟨.hbm, 112, rfl⟩
abbrev main_v55 : Ref sig .tc := ⟨.hbm, 113, rfl⟩
abbrev main_c_14 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_c_15 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_c_16 : Ref sig .tc := ⟨.hbm, 124, rfl⟩
abbrev main_c_17 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_call5_v3 : Ref sig .tc := ⟨.hbm, 129, rfl⟩
abbrev main_call5_v4 : Ref sig .tc := ⟨.hbm, 130, rfl⟩
abbrev main_v64 : Ref sig .tc := ⟨.hbm, 131, rfl⟩
abbrev main_c_18 : Ref sig .tc := ⟨.hbm, 132, rfl⟩
abbrev main_v65 : Ref sig .tc := ⟨.hbm, 133, rfl⟩
abbrev main_v66 : Ref sig .tc := ⟨.hbm, 134, rfl⟩
abbrev main_c_19 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_c_20 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_c_21 : Ref sig .tc := ⟨.hbm, 145, rfl⟩
abbrev main_c_22 : Ref sig .tc := ⟨.hbm, 146, rfl⟩
abbrev main_call6_v0 : Ref sig .tc := ⟨.hbm, 147, rfl⟩
abbrev main_call6_v1 : Ref sig .tc := ⟨.hbm, 148, rfl⟩
abbrev main_call6_v2 : Ref sig .tc := ⟨.hbm, 149, rfl⟩
abbrev main_call6_v3 : Ref sig .tc := ⟨.hbm, 150, rfl⟩
abbrev main_call6_v4 : Ref sig .tc := ⟨.hbm, 151, rfl⟩
abbrev main_v75 : Ref sig .tc := ⟨.hbm, 152, rfl⟩
abbrev main_v76 : Ref sig .tc := ⟨.hbm, 153, rfl⟩
abbrev main_c_23 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v89 : Ref sig .tc := ⟨.hbm, 166, rfl⟩
abbrev main_v90 : Ref sig .tc := ⟨.hbm, 167, rfl⟩
abbrev main_v88 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![67], ![false]⟩

abbrev pre0 : Pipeline.Prefetch sig := ⟨1, ![main_v88.idx], fun | 0 => main_v88.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0 : Index := 0#32
  let arg0 : BitVec 32 := BitVec.ofNat 32 (i 0).val
  let v0 : Index := Scalar.indexCast arg0
  ![0, v0.toNat]
def k0_off2 (i : grid0.Coords) : Fin 2 → Nat :=
  let c1 : Index := 1#32
  let arg0 : BitVec 32 := BitVec.ofNat 32 (i 0).val
  let v0 : Index := Scalar.indexCast arg0
  ![1, v0.toNat]
def k0_off3 (i : grid0.Coords) : Fin 2 → Nat :=
  let c2 : Index := 2#32
  let arg0 : BitVec 32 := BitVec.ofNat 32 (i 0).val
  let v0 : Index := Scalar.indexCast arg0
  ![2, v0.toNat]
def k0_off4 (i : grid0.Coords) : Fin 2 → Nat :=
  let c3 : Index := 3#32
  let arg0 : BitVec 32 := BitVec.ofNat 32 (i 0).val
  let v2 : Index := Scalar.indexCast arg0
  ![3, v2.toNat]
def k0_off5 (i : grid0.Coords) : Fin 2 → Nat :=
  let c4 : Index := 4#32
  let arg0 : BitVec 32 := BitVec.ofNat 32 (i 0).val
  let v4 : Index := Scalar.indexCast arg0
  ![4, v4.toNat]
def k0_cond1 (v1 : BitVec 32) (v3 : BitVec 32) : BitVec 1 :=
  let c0_i32 : BitVec 32 := 0#32
  let v6 : BitVec 1 := Scalar.cmpi .eq v1 c0_i32
  let c512_i32 : BitVec 32 := 512#32
  let v7 : BitVec 1 := Scalar.cmpi .eq v3 c512_i32
  let v8 : BitVec 1 := Scalar.andi v6 v7
  let v9 : BitVec 32 := Scalar.extui v8
  let c0_i32_0 : BitVec 32 := 0#32
  let v10 : BitVec 1 := Scalar.cmpi .ne v9 c0_i32_0
  v10

def k0_cond2 (v1 : BitVec 32) (v3 : BitVec 32) (v5 : BitVec 32) : BitVec 1 :=
  let c0_i32 : BitVec 32 := 0#32
  let v6 : BitVec 1 := Scalar.cmpi .eq v1 c0_i32
  let c512_i32 : BitVec 32 := 512#32
  let v7 : BitVec 1 := Scalar.cmpi .eq v3 c512_i32
  let v8 : BitVec 1 := Scalar.andi v6 v7
  let v_true : BitVec 1 := 1#1
  let v11 : BitVec 1 := Scalar.xori v8 v_true
  let c1_i32 : BitVec 32 := 1#32
  let v12 : BitVec 1 := Scalar.cmpi .eq v5 c1_i32
  let v13 : BitVec 1 := Scalar.andi v11 v12
  let v14 : BitVec 32 := Scalar.extui v13
  let c0_i32_1 : BitVec 32 := 0#32
  let v15 : BitVec 1 := Scalar.cmpi .ne v14 c0_i32_1
  v15

def k0_cond3 (v1 : BitVec 32) (v3 : BitVec 32) : BitVec 1 :=
  let c0_i32 : BitVec 32 := 0#32
  let v6 : BitVec 1 := Scalar.cmpi .eq v1 c0_i32
  let c512_i32 : BitVec 32 := 512#32
  let v7 : BitVec 1 := Scalar.cmpi .eq v3 c512_i32
  let v8 : BitVec 1 := Scalar.andi v6 v7
  let true_2 : BitVec 1 := 1#1
  let v16 : BitVec 1 := Scalar.xori v8 true_2
  let v17 : BitVec 1 := Scalar.cmpi .sgt v3 v1
  let v18 : BitVec 1 := Scalar.andi v16 v17
  let v19 : BitVec 32 := Scalar.extui v18
  let c0_i32_3 : BitVec 32 := 0#32
  let v20 : BitVec 1 := Scalar.cmpi .ne v19 c0_i32_3
  v20

def cc0_transform_0 (k0_off1_inb : ∀ i : grid0.Coords, ∀ a, (k0_off1 i) a + S1x1.size a ≤ S5x67.size a) (numel1_S1x1 : S1x1.numel = 1) (pf : pre0.Contents (Elt F)) (i : grid0.Coords) : Fin 2 → Nat :=
  let arg0 : BitVec 32 := BitVec.ofNat 32 (i 0).val
  let c0 : Index := 0#32
  let v0 : Index := Scalar.indexCast arg0
  let v1 : BitVec 32 := pf.at 0 (Rect.unit (s := S5x67) ![0, v0.toNat] S1x1.size (k0_off1_inb i)) numel1_S1x1
  let c0_i32 : BitVec 32 := 0#32
  let c0_i32_0 : BitVec 32 := 0#32
  ![v1.toNat, c0_i32.toNat]

def cc0_transform_1 (k0_off1_inb : ∀ i : grid0.Coords, ∀ a, (k0_off1 i) a + S1x1.size a ≤ S5x67.size a) (numel1_S1x1 : S1x1.numel = 1) (pf : pre0.Contents (Elt F)) (i : grid0.Coords) : Fin 2 → Nat :=
  let arg0 : BitVec 32 := BitVec.ofNat 32 (i 0).val
  let c0 : Index := 0#32
  let v0 : Index := Scalar.indexCast arg0
  let v1 : BitVec 32 := pf.at 0 (Rect.unit (s := S5x67) ![0, v0.toNat] S1x1.size (k0_off1_inb i)) numel1_S1x1
  let c0_i32 : BitVec 32 := 0#32
  let c0_i32_0 : BitVec 32 := 0#32
  ![v1.toNat, c0_i32.toNat]

def cc0_transform_2 (k0_off2_inb : ∀ i : grid0.Coords, ∀ a, (k0_off2 i) a + S1x1.size a ≤ S5x67.size a) (numel1_S1x1 : S1x1.numel = 1) (pf : pre0.Contents (Elt F)) (i : grid0.Coords) : Fin 3 → Nat :=
  let arg0 : BitVec 32 := BitVec.ofNat 32 (i 0).val
  let c1 : Index := 1#32
  let v0 : Index := Scalar.indexCast arg0
  let v1 : BitVec 32 := pf.at 0 (Rect.unit (s := S5x67) ![1, v0.toNat] S1x1.size (k0_off2_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_3 (k0_off2_inb : ∀ i : grid0.Coords, ∀ a, (k0_off2 i) a + S1x1.size a ≤ S5x67.size a) (numel1_S1x1 : S1x1.numel = 1) (pf : pre0.Contents (Elt F)) (i : grid0.Coords) : Fin 3 → Nat :=
  let arg0 : BitVec 32 := BitVec.ofNat 32 (i 0).val
  let c1 : Index := 1#32
  let v0 : Index := Scalar.indexCast arg0
  let v1 : BitVec 32 := pf.at 0 (Rect.unit (s := S5x67) ![1, v0.toNat] S1x1.size (k0_off2_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1x1.size a ≤ S5x67.size a) (numel1_S1x1 : S1x1.numel = 1) (pf : pre0.Contents (Elt F)) (i : grid0.Coords) : Fin 2 → Nat :=
  let arg0 : BitVec 32 := BitVec.ofNat 32 (i 0).val
  let c0 : Index := 0#32
  let v0 : Index := Scalar.indexCast arg0
  let v1 : BitVec 32 := pf.at 0 (Rect.unit (s := S5x67) ![0, v0.toNat] S1x1.size (k0_off1_inb i)) numel1_S1x1
  let c0_i32 : BitVec 32 := 0#32
  let c0_i32_0 : BitVec 32 := 0#32
  ![v1.toNat, c0_i32.toNat]

abbrev stage0_0 : Fin 2 → Memref sig .tc .vmem S512x2816 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2816x5632 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32768x2816 : Shape := ⟨2, ![32768, 2816]⟩
abbrev S32768x1 : Shape := ⟨2, ![32768, 1]⟩
abbrev S4x2816x5632 : Shape := ⟨3, ![4, 2816, 5632]⟩
abbrev S4x5632 : Shape := ⟨2, ![4, 5632]⟩
abbrev S4 : Shape := ⟨1, ![4]⟩
abbrev S32768x5632 : Shape := ⟨2, ![32768, 5632]⟩
abbrev S1 : Shape := ⟨1, ![1]⟩
abbrev S1x2816x5632 : Shape := ⟨3, ![1, 2816, 5632]⟩
abbrev S2816x5632 : Shape := ⟨2, ![2816, 5632]⟩
abbrev S1x5632 : Shape := ⟨2, ![1, 5632]⟩

abbrev nBuf : Space → Nat
  | .hbm => 6
  | .vmem => 5
  | .smem => 1
  | _ => 0

abbrev bufTy : (tb : Table) → Fin (tcTables nBuf tb) → BufTy
  | .hbm, ⟨0, _⟩ => ⟨S32768x2816, .fp8e4m3⟩
  | .hbm, ⟨1, _⟩ => ⟨S32768x1, .f32⟩
  | .hbm, ⟨2, _⟩ => ⟨S4x2816x5632, .fp8e4m3⟩
  | .hbm, ⟨3, _⟩ => ⟨S4x5632, .f32⟩
  | .hbm, ⟨4, _⟩ => ⟨S4, .i32⟩
  | .hbm, ⟨5, _⟩ => ⟨S32768x5632, .bf16⟩
  | .local _ .vmem, ⟨0, _⟩ => ⟨S32768x2816, .fp8e4m3⟩
  | .local _ .vmem, ⟨1, _⟩ => ⟨S32768x1, .f32⟩
  | .local _ .vmem, ⟨2, _⟩ => ⟨S4x2816x5632, .fp8e4m3⟩
  | .local _ .vmem, ⟨3, _⟩ => ⟨S4x5632, .f32⟩
  | .local _ .vmem, ⟨4, _⟩ => ⟨S32768x5632, .bf16⟩
  | .local _ .smem, ⟨0, _⟩ => ⟨S4, .i32⟩
  | _, _ => ⟨S32768x2816, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x2816 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32768x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2816x5632 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32768x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Entry.lean ====
/- The buffers when the kernel's region is entered: the host operations that compute the table of visits, stage by stage. -/
module

public import proofs.«01_k».proof.Proof.Gen.KernelIdeal.Launch
public import Idealize.ShloMosaic.Lib.Pipeline.Frame
public import Idealize.ShloMosaic.Lib.Claim
public import Idealize.ShloMosaic.Lib.StableHlo.RunRead

@[expose] public section

set_option maxRecDepth 16384

noncomputable section

namespace Cert.KernelIdeal.Entry

open Cert.KernelIdeal Cert.KernelIdeal.Gen
open Idealize.ShloMosaic Idealize.ShloMosaic.TcCoe Idealize.ShloMosaic.Tactic
open Idealize.SL Idealize.SL.RA Idealize.SL.BI Idealize.SL.Sem

variable {F : FTy → Type} [FloatOps F]

/-- A device's buffers. -/
abbrev Bufs (F : FTy → Type) : Type := Valuation τ sig (Elt F)

/-- The buffers after each group of host operations. -/
def st1 (B : Bufs F) : Bufs F := StableHlo.after hostOps0 B
def st2 (B : Bufs F) : Bufs F := StableHlo.after hostOps0_1 (st1 B)
def st3 (B : Bufs F) : Bufs F := StableHlo.after hostOps0_2 (st2 B)
def st4 (B : Bufs F) : Bufs F := StableHlo.after hostOps0_3 (st3 B)
def st5 (B : Bufs F) : Bufs F := StableHlo.after hostOps0_4 (st4 B)
def st6 (B : Bufs F) : Bufs F := StableHlo.after hostOps0_5 (st5 B)
def st7 (B : Bufs F) : Bufs F := StableHlo.after hostOps0_6 (st6 B)
def st8 (B : Bufs F) : Bufs F := StableHlo.after hostOps0_7 (st7 B)
def st9 (B : Bufs F) : Bufs F := StableHlo.after hostOps0_8 (st8 B)
def st10 (B : Bufs F) : Bufs F := StableHlo.after hostOps0_9 (st9 B)
def st11 (B : Bufs F) : Bufs F := StableHlo.after hostOps0_10 (st10 B)
def st12 (B : Bufs F) : Bufs F := StableHlo.after hostOps0_11 (st11 B)
def st13 (B : Bufs F) : Bufs F := StableHlo.after hostOps0_12 (st12 B)
def st14 (B : Bufs F) : Bufs F := StableHlo.after hostOps0_13 (st13 B)

/-- All the groups, in order. -/
abbrev groups : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13]

theorem after_two (l₁ l₂ : List (HloOp τ sig (Elt F))) (B : Bufs F) : StableHlo.after (l₁ ++ l₂) B = StableHlo.after l₂ (StableHlo.after l₁ B) := by
  induction l₁ generalizing B with
  | nil => rfl
  | cons op l ih => exact ih _

theorem after_groups : ∀ (gs : List (List (HloOp τ sig (Elt F)))) (B : Bufs F),
    StableHlo.after gs.flatten B = gs.foldl (fun B ops => StableHlo.after ops B) B
  | [], _ => rfl
  | g :: gs, B => by rw [List.flatten_cons, after_two, after_groups gs]; rfl

theorem after_all (B : Bufs F) : StableHlo.after (groups (F := F)).flatten B = st14 B := by
  rw [after_groups]; rfl

variable (m : (ℓ : Loc nD τ sig) → Buf (Elt F) ℓ)

/-- Core `c`'s buffers when the region is entered. -/
def V (c : Dev nD) (b : Ref sig .tc) : Buf (Elt F) ((c : Thread nD τ).loc b) := st14 (fun b => m (c, b)) (Proc.devRef .tc b)

/-- No group allocates. -/
theorem fresh_hostOps0 : (hostOps0 : List (HloOp τ sig (Elt F))).Forall fun op => op.fresh = ∅ := StableHlo.forall_fresh_of_map rfl
theorem fresh_hostOps0_1 : (hostOps0_1 : List (HloOp τ sig (Elt F))).Forall fun op => op.fresh = ∅ := StableHlo.forall_fresh_of_map rfl
theorem fresh_hostOps0_2 : (hostOps0_2 : List (HloOp τ sig (Elt F))).Forall fun op => op.fresh = ∅ := StableHlo.forall_fresh_of_map rfl
theorem fresh_hostOps0_3 : (hostOps0_3 : List (HloOp τ sig (Elt F))).Forall fun op => op.fresh = ∅ := StableHlo.forall_fresh_of_map rfl
theorem fresh_hostOps0_4 : (hostOps0_4 : List (HloOp τ sig (Elt F))).Forall fun op => op.fresh = ∅ := StableHlo.forall_fresh_of_map rfl
theorem fresh_hostOps0_5 : (hostOps0_5 : List (HloOp τ sig (Elt F))).Forall fun op => op.fresh = ∅ := StableHlo.forall_fresh_of_map rfl
theorem fresh_hostOps0_6 : (hostOps0_6 : List (HloOp τ sig (Elt F))).Forall fun op => op.fresh = ∅ := StableHlo.forall_fresh_of_map rfl
theorem fresh_hostOps0_7 : (hostOps0_7 : List (HloOp τ sig (Elt F))).Forall fun op => op.fresh = ∅ := StableHlo.forall_fresh_of_map rfl
theorem fresh_hostOps0_8 : (hostOps0_8 : List (HloOp τ sig (Elt F))).Forall fun op => op.fresh = ∅ := StableHlo.forall_fresh_of_map rfl
theorem fresh_hostOps0_9 : (hostOps0_9 : List (HloOp τ sig (Elt F))).Forall fun op => op.fresh = ∅ := StableHlo.forall_fresh_of_map rfl
theorem fresh_hostOps0_10 : (hostOps0_10 : List (HloOp τ sig (Elt F))).Forall fun op => op.fresh = ∅ := StableHlo.forall_fresh_of_map rfl
theorem fresh_hostOps0_11 : (hostOps0_11 : List (HloOp τ sig (Elt F))).Forall fun op => op.fresh = ∅ := StableHlo.forall_fresh_of_map rfl
theorem fresh_hostOps0_12 : (hostOps0_12 : List (HloOp τ sig (Elt F))).Forall fun op => op.fresh = ∅ := StableHlo.forall_fresh_of_map rfl
theorem fresh_hostOps0_13 : (hostOps0_13 : List (HloOp τ sig (Elt F))).Forall fun op => op.fresh = ∅ := StableHlo.forall_fresh_of_map rfl

set_option maxHeartbeats 800000 in
/-- @main up to the region. -/
theorem hmain (𝒱₀ : Variants) : Pipeline.HMainP (Ix := Unit) (Name := ℕ) (U := UR sig nD τ) (Lvl := ℕ) pcfgs 0 defs₀ 𝒱₀ m (main (F := F)) (V m) := by
  have h := Pipeline.hmainP_prefixes (Ix := Unit) (Name := ℕ) (U := UR sig nD τ) (Lvl := ℕ) pcfgs 0 defs₀ 𝒱₀ m (main (F := F)) groups
    (And.intro hostOps0_sub <| And.intro hostOps0_1_sub <| And.intro hostOps0_2_sub <| And.intro hostOps0_3_sub <| And.intro hostOps0_4_sub <| And.intro hostOps0_5_sub <| And.intro hostOps0_6_sub <| And.intro hostOps0_7_sub <| And.intro hostOps0_8_sub <| And.intro hostOps0_9_sub <| And.intro hostOps0_10_sub <| And.intro hostOps0_11_sub <| And.intro hostOps0_12_sub <| hostOps0_13_sub)
    (And.intro fresh_hostOps0 <| And.intro fresh_hostOps0_1 <| And.intro fresh_hostOps0_2 <| And.intro fresh_hostOps0_3 <| And.intro fresh_hostOps0_4 <| And.intro fresh_hostOps0_5 <| And.intro fresh_hostOps0_6 <| And.intro fresh_hostOps0_7 <| And.intro fresh_hostOps0_8 <| And.intro fresh_hostOps0_9 <| And.intro fresh_hostOps0_10 <| And.intro fresh_hostOps0_11 <| And.intro fresh_hostOps0_12 <| fresh_hostOps0_13)
    main_chain
  simp only [after_all] at h
  exact h

theorem st_arg (B : Bufs F) (r : Ref sig .tc) (hr : r ∈ [main_arg0, main_arg1, main_arg2, main_arg3, main_arg4]) : st14 B (Proc.devRef .tc r) = B (Proc.devRef .tc r) := by
  simp only [List.mem_cons, List.not_mem_nil, or_false] at hr
  rcases hr with rfl | rfl | rfl | rfl | rfl <;>
  · unfold st14 st13 st12 st11 st10 st9 st8 st7 st6 st5 st4 st3 st2 st1
    after_reads_simp

theorem V_arg0 (c : Dev nD) : V m c main_arg0 = m ((c : Thread nD τ).loc main_arg0) := st_arg _ _ (by simp)
theorem V_arg1 (c : Dev nD) : V m c main_arg1 = m ((c : Thread nD τ).loc main_arg1) := st_arg _ _ (by simp)
theorem V_arg2 (c : Dev nD) : V m c main_arg2 = m ((c : Thread nD τ).loc main_arg2) := st_arg _ _ (by simp)
theorem V_arg3 (c : Dev nD) : V m c main_arg3 = m ((c : Thread nD τ).loc main_arg3) := st_arg _ _ (by simp)
theorem V_arg4 (c : Dev nD) : V m c main_arg4 = m ((c : Thread nD τ).loc main_arg4) := st_arg _ _ (by simp)

end Cert.KernelIdeal.Entry

end
-- ==== Proof.Rows.lean ====
/- What the host computes before the kernel runs, array by array: from the four sizes to the table of visits. -/
module

public import proofs.«01_k».proof.Proof.Entry
public import Idealize.ShloMosaic.Lib.StableHlo.RunRead

@[expose] public section

set_option maxRecDepth 16384

noncomputable section

namespace Cert.KernelIdeal.Rows

open Cert.KernelIdeal Cert.KernelIdeal.Gen Cert.KernelIdeal.Entry
open Idealize.ShloMosaic Idealize.ShloMosaic.TcCoe Idealize.ShloMosaic.Tactic
open Idealize.SL Idealize.SL.Sem

/-- A number spread over the four experts, over the visits. -/
abbrev spread4 (w : BitVec 32) : IVec S4 32 := broadcastInDim S4 ![] bcast_S_S4 (constantI S_ 32 w)
abbrev spread67 (w : BitVec 32) : IVec S67 32 := broadcastInDim S67 ![] bcast_S_S67 (constantI S_ 32 w)

/-- The running sums. -/
def sums (x : IVec S4 32) : IVec S4 32 := Host.reduceWindow IntOp.addi ![4] ![1] ![3] ![0] x (broadcastInDim S_ ![] bcast_S_S_ (constantI S_ 32 0#32)) reduceWindows_S4_S4_w4s1p3_0 h_S_
/-- The quotient by 512, rounded down. -/
def tileOf (x : IVec S4 32) : IVec S4 32 :=
  select (andi (cmpi .ne (signi x) (broadcastInDim S4 ![] bcast_S_S4 (signi (constantI S_ 32 512#32)))) (cmpi .ne (Host.remsi x (spread4 512#32)) (spread4 0#32)))
    (subi (Host.divsi x (spread4 512#32)) (spread4 1#32)) (Host.divsi x (spread4 512#32))
/-- Each expert's first row and the row after its last. -/
def ends (x : IVec S4 32) : IVec S4 32 := sums x
def starts (x : IVec S4 32) : IVec S4 32 := subi (ends x) x
/-- Each expert's first tile, its number of tiles, and the visits up to its last. -/
def firstTile (x : IVec S4 32) : IVec S4 32 := tileOf (starts x)
def lastTile (x : IVec S4 32) : IVec S4 32 := tileOf (subi (addi (ends x) (spread4 512#32)) (spread4 1#32))
def tiles (x : IVec S4 32) : IVec S4 32 := select (cmpi .sgt x (spread4 0#32)) (subi (lastTile x) (firstTile x)) (spread4 0#32)
def visitEnd (x : IVec S4 32) : IVec S4 32 := sums (tiles x)

/-- The number of visits there are to make, one less, and each visit clipped to the last of them. -/
def total (x : IVec S4 32) : IVec S_ 32 := shapeCast S_ (extractStridedSlice S1 ![3] (visitEnd x) slices_S4_S1_3) shapeCasts_S1_S_
def count : IVec S67 32 := iotaInDim S67 32 0
def real (x : IVec S4 32) : IVec S67 1 := cmpi .slt count (broadcastInDim S67 ![] bcast_S_S67 (total x))
def clipped (x : IVec S4 32) : IVec S67 32 := minsi count (broadcastInDim S67 ![] bcast_S_S67 (subi (total x) (constantI S_ 32 1#32)))

/-- The expert of each visit. -/
def expert (x : IVec S4 32) : IVec S67 32 :=
  Host.reduce IntOp.addi (extui 32 (cmpi .sge (broadcastInDim S67x4 ![0, 1] bcast_S67x1_S67x4_0_1 (broadcastInDim S67x1 ![0] bcast_S67_S67x1_0 (clipped x)))
    (broadcastInDim S67x4 ![0, 1] bcast_S1x4_S67x4_0_1 (broadcastInDim S1x4 ![1] bcast_S4_S1x4_1 (visitEnd x)))) natLt_1_32) (constantI S_ 32 0#32) reducesTo_S67x4_S67_d1 h_S_
/-- A table read at each visit's expert. -/
def take (x y : IVec S4 32) : IVec S67 32 :=
  Host.gather gather_S4_S67x1_S67_n_0_n_n_0_1_1 y (broadcastInDim S67x1 ![0] bcast_S67_S67x1_0 (select (cmpi .slt (expert x) (spread67 0#32)) (addi (expert x) (spread67 4#32)) (expert x)))
/-- The tile of each visit. -/
def tile (x : IVec S4 32) : IVec S67 32 := subi (addi (take x (firstTile x)) (clipped x)) (subi (take x (visitEnd x)) (take x (tiles x)))
/-- A number clipped to the tile's rows. -/
def clip (y : IVec S67 32) : IVec S67 32 := minsi (spread67 512#32) (maxsi (spread67 0#32) y)
/-- The first row of the tile that is the visit's, and the row after its last. -/
def lo (x : IVec S4 32) : IVec S67 32 := clip (subi (take x (starts x)) (muli (tile x) (spread67 512#32)))
def hi (x : IVec S4 32) : IVec S67 32 := select (real x) (clip (subi (take x (ends x)) (muli (tile x) (spread67 512#32)))) (lo x)
/-- Whether the visit is its tile's first. -/
def first (x : IVec S4 32) : IVec S67 32 :=
  extui 32 (concatenate S67 0 [⟨S1, broadcastInDim S1 ![] bcast_S_S1 (constantI S_ 1 1#1)⟩,
    ⟨S66, cmpi .ne (extractStridedSlice S66 ![1] (tile x) slices_S67_S66_1) (extractStridedSlice S66 ![0] (tile x) slices_S67_S66_0)⟩] concatenates_S1_S66_S67_d0) natLt_1_32
/-- One row of the table. -/
abbrev asRow (y : IVec S67 32) : IVec S1x67 32 := broadcastInDim S1x67 ![1] bcast_S67_S1x67_1 y
/-- The table. -/
def table (x : IVec S4 32) : IVec S5x67 32 :=
  concatenate S5x67 0 [⟨S1x67, asRow (tile x)⟩, ⟨S1x67, asRow (expert x)⟩, ⟨S1x67, asRow (lo x)⟩, ⟨S1x67, asRow (hi x)⟩, ⟨S1x67, asRow (first x)⟩] concatenates_S1x67_S1x67_S1x67_S1x67_S1x67_S5x67_d0

variable {F : FTy → Type} [FloatOps F] (B : Bufs F)

abbrev sizes : IVec S4 32 := B (Proc.devRef .tc main_arg4)

theorem at1_v0 : st1 B (Proc.devRef .tc main_v0) = ends (sizes B) := by
  unfold st1; after_reads_simp
  try simp -implicitDefEqProofs only [StableHlo.TRef.toBuf, StableHlo.TRef.ofBuf, cast_cast, cast_eq]
  rfl

theorem at1_arg4 : st1 B (Proc.devRef .tc main_arg4) = (sizes B) := by
  unfold st1; after_reads_simp
  try simp -implicitDefEqProofs only [StableHlo.TRef.toBuf, StableHlo.TRef.ofBuf, cast_cast, cast_eq]
  try rfl

theorem at2_v1 : st2 B (Proc.devRef .tc main_v1) = starts (sizes B) := by
  unfold st2; after_reads_simp
  try simp -implicitDefEqProofs only [StableHlo.TRef.toBuf, StableHlo.TRef.ofBuf, cast_cast, cast_eq]
  rw [at1_v0, at1_arg4]; rfl

theorem at2_c : st2 B (Proc.devRef .tc main_c) = constantI S_ 32 512#32 := by
  unfold st2; after_reads_simp
  try simp -implicitDefEqProofs only [StableHlo.TRef.toBuf, StableHlo.TRef.ofBuf, cast_cast, cast_eq]
  try rfl

theorem at3_v2 : st3 B (Proc.devRef .tc main_v2) = firstTile (sizes B) := by
  unfold st3; after_reads_simp
  try simp -implicitDefEqProofs only [StableHlo.TRef.toBuf, StableHlo.TRef.ofBuf, cast_cast, cast_eq]
  rw [at2_v1, at2_c]; rfl

theorem at3_arg4 : st3 B (Proc.devRef .tc main_arg4) = (sizes B) := by
  unfold st3 st2 st1; after_reads_simp
  try simp -implicitDefEqProofs only [StableHlo.TRef.toBuf, StableHlo.TRef.ofBuf, cast_cast, cast_eq]
  try rfl

theorem at3_v0 : st3 B (Proc.devRef .tc main_v0) = ends (sizes B) := by
  unfold st3 st2; after_reads_simp
  try simp -implicitDefEqProofs only [StableHlo.TRef.toBuf, StableHlo.TRef.ofBuf, cast_cast, cast_eq]
  exact at1_v0 B

theorem at4_v4 : st4 B (Proc.devRef .tc main_v4) = cmpi .sgt (sizes B) (spread4 0#32) := by
  unfold st4; after_reads_simp
  try simp -implicitDefEqProofs only [StableHlo.TRef.toBuf, StableHlo.TRef.ofBuf, cast_cast, cast_eq]
  rw [at3_arg4]

theorem at4_v8 : st4 B (Proc.devRef .tc main_v8) = subi (addi (ends (sizes B)) (spread4 512#32)) (spread4 1#32) := by
  unfold st4; after_reads_simp
  try simp -implicitDefEqProofs only [StableHlo.TRef.toBuf, StableHlo.TRef.ofBuf, cast_cast, cast_eq]
  rw [at3_v0]

theorem at4_c_3 : st4 B (Proc.devRef .tc main_c_3) = constantI S_ 32 512#32 := by
  unfold st4; after_reads_simp
  try simp -implicitDefEqProofs only [StableHlo.TRef.toBuf, StableHlo.TRef.ofBuf, cast_cast, cast_eq]
  try rfl

theorem at5_v9 : st5 B (Proc.devRef .tc main_v9) = lastTile (sizes B) := by
  unfold st5; after_reads_simp
  try simp -implicitDefEqProofs only [StableHlo.TRef.toBuf, StableHlo.TRef.ofBuf, cast_cast, cast_eq]
  rw [at4_v8, at4_c_3]; rfl

theorem at5_v2 : st5 B (Proc.devRef .tc main_v2) = firstTile (sizes B) := by
  unfold st5 st4; after_reads_simp
  try simp -implicitDefEqProofs only [StableHlo.TRef.toBuf, StableHlo.TRef.ofBuf, cast_cast, cast_eq]
  exact at3_v2 B

theorem at6_v10 : st6 B (Proc.devRef .tc main_v10) = subi (lastTile (sizes B)) (firstTile (sizes B)) := by
  unfold st6; after_reads_simp
  try simp -implicitDefEqProofs only [StableHlo.TRef.toBuf, StableHlo.TRef.ofBuf, cast_cast, cast_eq]
  rw [at5_v9, at5_v2]

theorem at6_c_4 : st6 B (Proc.devRef .tc main_c_4) = constantI S_ 32 0#32 := by
  unfold st6; after_reads_simp
  try simp -implicitDefEqProofs only [StableHlo.TRef.toBuf, StableHlo.TRef.ofBuf, cast_cast, cast_eq]
  try rfl

theorem at6_v4 : st6 B (Proc.devRef .tc main_v4) = cmpi .sgt (sizes B) (spread4 0#32) := by
  unfold st6 st5; after_reads_simp
  try simp -implicitDefEqProofs only [StableHlo.TRef.toBuf, StableHlo.TRef.ofBuf, cast_cast, cast_eq]
  exact at4_v4 B

theorem at7_v11 : st7 B (Proc.devRef .tc main_v11) = tiles (sizes B) := by
  unfold st7; after_reads_simp
  try simp -implicitDefEqProofs only [StableHlo.TRef.toBuf, StableHlo.TRef.ofBuf, cast_cast, cast_eq]
  rw [at6_v10, at6_c_4, at6_v4]; rfl

theorem at8_v12 : st8 B (Proc.devRef .tc main_v12) = visitEnd (sizes B) := by
  unfold st8; after_reads_simp
  try simp -implicitDefEqProofs only [StableHlo.TRef.toBuf, StableHlo.TRef.ofBuf, cast_cast, cast_eq]
  rw [at7_v11]; rfl

theorem at8_v11 : st8 B (Proc.devRef .tc main_v11) = tiles (sizes B) := by
  unfold st8; after_reads_simp
  try simp -implicitDefEqProofs only [StableHlo.TRef.toBuf, StableHlo.TRef.ofBuf, cast_cast, cast_eq]
  exact at7_v11 B

theorem at8_v2 : st8 B (Proc.devRef .tc main_v2) = firstTile (sizes B) := by
  unfold st8 st7 st6 st5 st4; after_reads_simp
  try simp -implicitDefEqProofs only [StableHlo.TRef.toBuf, StableHlo.TRef.ofBuf, cast_cast, cast_eq]
  exact at3_v2 B

theorem at8_v1 : st8 B (Proc.devRef .tc main_v1) = starts (sizes B) := by
  unfold st8 st7 st6 st5 st4 st3; after_reads_simp
  try simp -implicitDefEqProofs only [StableHlo.TRef.toBuf, StableHlo.TRef.ofBuf, cast_cast, cast_eq]
  exact at2_v1 B

theorem at9_v17 : st9 B (Proc.devRef .tc main_v17) = real (sizes B) := by
  unfold st9; after_reads_simp
  try simp -implicitDefEqProofs only [StableHlo.TRef.toBuf, StableHlo.TRef.ofBuf, cast_cast, cast_eq]
  rw [at8_v12]; rfl

theorem at9_v29 : st9 B (Proc.devRef .tc main_v29) = expert (sizes B) := by
  unfold st9; after_reads_simp
  try simp -implicitDefEqProofs only [StableHlo.TRef.toBuf, StableHlo.TRef.ofBuf, cast_cast, cast_eq]
  rw [at8_v12]; rfl

theorem at9_v53 : st9 B (Proc.devRef .tc main_v53) = tile (sizes B) := by
  unfold st9; after_reads_simp
  try simp -implicitDefEqProofs only [StableHlo.TRef.toBuf, StableHlo.TRef.ofBuf, cast_cast, cast_eq]
  rw [at8_v12, at8_v11, at8_v2]; rfl

theorem at9_v63 : st9 B (Proc.devRef .tc main_v63) = subi (take (sizes B) (starts (sizes B))) (muli (tile (sizes B)) (spread67 512#32)) := by
  unfold st9; after_reads_simp
  try simp -implicitDefEqProofs only [StableHlo.TRef.toBuf, StableHlo.TRef.ofBuf, cast_cast, cast_eq]
  rw [at8_v12, at8_v11, at8_v2, at8_v1]; rfl

theorem at9_c_16 : st9 B (Proc.devRef .tc main_c_16) = constantI S_ 32 0#32 := by
  unfold st9; after_reads_simp
  try simp -implicitDefEqProofs only [StableHlo.TRef.toBuf, StableHlo.TRef.ofBuf, cast_cast, cast_eq]
  try rfl

theorem at9_c_17 : st9 B (Proc.devRef .tc main_c_17) = constantI S_ 32 512#32 := by
  unfold st9; after_reads_simp
  try simp -implicitDefEqProofs only [StableHlo.TRef.toBuf, StableHlo.TRef.ofBuf, cast_cast, cast_eq]
  try rfl

theorem at10_v64 : st10 B (Proc.devRef .tc main_v64) = lo (sizes B) := by
  unfold st10; after_reads_simp
  try simp -implicitDefEqProofs only [StableHlo.TRef.toBuf, StableHlo.TRef.ofBuf, cast_cast, cast_eq]
  rw [at9_v63, at9_c_16, at9_c_17]; rfl

theorem at10_v53 : st10 B (Proc.devRef .tc main_v53) = tile (sizes B) := by
  unfold st10; after_reads_simp
  try simp -implicitDefEqProofs only [StableHlo.TRef.toBuf, StableHlo.TRef.ofBuf, cast_cast, cast_eq]
  exact at9_v53 B

theorem at10_v29 : st10 B (Proc.devRef .tc main_v29) = expert (sizes B) := by
  unfold st10; after_reads_simp
  try simp -implicitDefEqProofs only [StableHlo.TRef.toBuf, StableHlo.TRef.ofBuf, cast_cast, cast_eq]
  exact at9_v29 B

theorem at10_v0 : st10 B (Proc.devRef .tc main_v0) = ends (sizes B) := by
  unfold st10 st9 st8 st7 st6 st5 st4 st3 st2; after_reads_simp
  try simp -implicitDefEqProofs only [StableHlo.TRef.toBuf, StableHlo.TRef.ofBuf, cast_cast, cast_eq]
  exact at1_v0 B

theorem at11_v74 : st11 B (Proc.devRef .tc main_v74) = subi (take (sizes B) (ends (sizes B))) (muli (tile (sizes B)) (spread67 512#32)) := by
  unfold st11; after_reads_simp
  try simp -implicitDefEqProofs only [StableHlo.TRef.toBuf, StableHlo.TRef.ofBuf, cast_cast, cast_eq]
  rw [at10_v29, at10_v53, at10_v0]; rfl

theorem at11_c_21 : st11 B (Proc.devRef .tc main_c_21) = constantI S_ 32 0#32 := by
  unfold st11; after_reads_simp
  try simp -implicitDefEqProofs only [StableHlo.TRef.toBuf, StableHlo.TRef.ofBuf, cast_cast, cast_eq]
  try rfl

theorem at11_c_22 : st11 B (Proc.devRef .tc main_c_22) = constantI S_ 32 512#32 := by
  unfold st11; after_reads_simp
  try simp -implicitDefEqProofs only [StableHlo.TRef.toBuf, StableHlo.TRef.ofBuf, cast_cast, cast_eq]
  try rfl

theorem at12_v75 : st12 B (Proc.devRef .tc main_v75) = clip (subi (take (sizes B) (ends (sizes B))) (muli (tile (sizes B)) (spread67 512#32))) := by
  unfold st12; after_reads_simp
  try simp -implicitDefEqProofs only [StableHlo.TRef.toBuf, StableHlo.TRef.ofBuf, cast_cast, cast_eq]
  rw [at11_v74, at11_c_21, at11_c_22]; rfl

theorem at12_v17 : st12 B (Proc.devRef .tc main_v17) = real (sizes B) := by
  unfold st12 st11 st10; after_reads_simp
  try simp -implicitDefEqProofs only [StableHlo.TRef.toBuf, StableHlo.TRef.ofBuf, cast_cast, cast_eq]
  exact at9_v17 B

theorem at12_v64 : st12 B (Proc.devRef .tc main_v64) = lo (sizes B) := by
  unfold st12 st11; after_reads_simp
  try simp -implicitDefEqProofs only [StableHlo.TRef.toBuf, StableHlo.TRef.ofBuf, cast_cast, cast_eq]
  exact at10_v64 B

theorem at13_v76 : st13 B (Proc.devRef .tc main_v76) = hi (sizes B) := by
  unfold st13; after_reads_simp
  try simp -implicitDefEqProofs only [StableHlo.TRef.toBuf, StableHlo.TRef.ofBuf, cast_cast, cast_eq]
  rw [at12_v75, at12_v17, at12_v64]; rfl

theorem at13_v53 : st13 B (Proc.devRef .tc main_v53) = tile (sizes B) := by
  unfold st13 st12 st11 st10; after_reads_simp
  try simp -implicitDefEqProofs only [StableHlo.TRef.toBuf, StableHlo.TRef.ofBuf, cast_cast, cast_eq]
  exact at9_v53 B

theorem at13_v29 : st13 B (Proc.devRef .tc main_v29) = expert (sizes B) := by
  unfold st13 st12 st11 st10; after_reads_simp
  try simp -implicitDefEqProofs only [StableHlo.TRef.toBuf, StableHlo.TRef.ofBuf, cast_cast, cast_eq]
  exact at9_v29 B

theorem at13_v64 : st13 B (Proc.devRef .tc main_v64) = lo (sizes B) := by
  unfold st13 st12 st11; after_reads_simp
  try simp -implicitDefEqProofs only [StableHlo.TRef.toBuf, StableHlo.TRef.ofBuf, cast_cast, cast_eq]
  exact at10_v64 B

theorem at13_arg3 : st13 B (Proc.devRef .tc main_arg3) = B (Proc.devRef .tc main_arg3) := by
  unfold st13 st12 st11 st10 st9 st8 st7 st6 st5 st4 st3 st2 st1; after_reads_simp
  try simp -implicitDefEqProofs only [StableHlo.TRef.toBuf, StableHlo.TRef.ofBuf, cast_cast, cast_eq]
  try rfl

/-- The five rows, before they are stacked. -/
theorem row0 : StableHlo.upto hostOps0_13 (st13 B) 12 (Proc.devRef .tc main_v83) = asRow (tile (sizes B)) := by
  after_reads_simp
  try simp -implicitDefEqProofs only [StableHlo.TRef.toBuf, StableHlo.TRef.ofBuf, cast_cast, cast_eq]
  rw [at13_v53]

theorem row1 : StableHlo.upto hostOps0_13 (st13 B) 12 (Proc.devRef .tc main_v84) = asRow (expert (sizes B)) := by
  after_reads_simp
  try simp -implicitDefEqProofs only [StableHlo.TRef.toBuf, StableHlo.TRef.ofBuf, cast_cast, cast_eq]
  rw [at13_v29]

theorem row2 : StableHlo.upto hostOps0_13 (st13 B) 12 (Proc.devRef .tc main_v85) = asRow (lo (sizes B)) := by
  after_reads_simp
  try simp -implicitDefEqProofs only [StableHlo.TRef.toBuf, StableHlo.TRef.ofBuf, cast_cast, cast_eq]
  rw [at13_v64]

theorem row3 : StableHlo.upto hostOps0_13 (st13 B) 12 (Proc.devRef .tc main_v86) = asRow (hi (sizes B)) := by
  after_reads_simp
  try simp -implicitDefEqProofs only [StableHlo.TRef.toBuf, StableHlo.TRef.ofBuf, cast_cast, cast_eq]
  rw [at13_v76]

theorem flag0 : StableHlo.upto hostOps0_13 (st13 B) 5 (Proc.devRef .tc main_v77) = broadcastInDim S1 ![] bcast_S_S1 (constantI S_ 1 1#1) := by
  after_reads_simp

theorem flag1 : StableHlo.upto hostOps0_13 (st13 B) 5 (Proc.devRef .tc main_v80) =
    cmpi .ne (extractStridedSlice S66 ![1] (tile (sizes B)) slices_S67_S66_1) (extractStridedSlice S66 ![0] (tile (sizes B)) slices_S67_S66_0) := by
  after_reads_simp
  rw [at13_v53]

theorem flags_congr {a a' : IVec S1 1} {b b' : IVec S66 1} (ha : a = a') (hb : b = b') :
    asRow (extui 32 (concatenate S67 0 [⟨S1, a⟩, ⟨S66, b⟩] concatenates_S1_S66_S67_d0) natLt_1_32) =
      asRow (extui 32 (concatenate S67 0 [⟨S1, a'⟩, ⟨S66, b'⟩] concatenates_S1_S66_S67_d0) natLt_1_32) := by rw [ha, hb]

theorem row4 : StableHlo.upto hostOps0_13 (st13 B) 12 (Proc.devRef .tc main_v87) = asRow (first (sizes B)) := by
  after_reads_simp
  exact flags_congr (flag0 B) (flag1 B)

/-- Five rows, stacked. -/
def stack (a b c d e : IVec S1x67 32) : IVec S5x67 32 :=
  concatenate S5x67 0 [⟨S1x67, a⟩, ⟨S1x67, b⟩, ⟨S1x67, c⟩, ⟨S1x67, d⟩, ⟨S1x67, e⟩] concatenates_S1x67_S1x67_S1x67_S1x67_S1x67_S5x67_d0

theorem stack_congr {a a' b b' c c' d d' e e' : IVec S1x67 32} (ha : a = a') (hb : b = b') (hc : c = c') (hd : d = d') (he : e = e') :
    stack a b c d e = stack a' b' c' d' e' := by rw [ha, hb, hc, hd, he]

/-- The table the host leaves. -/
theorem at14_v88 : st14 B (Proc.devRef .tc main_v88) = table (sizes B) := by
  unfold st14; after_reads_simp
  exact stack_congr (row0 B) (row1 B) (row2 B) (row3 B) (row4 B)

/-- The scales of the experts, as the kernel reads them. -/
theorem at14_v89 : st14 B (Proc.devRef .tc main_v89) = shapeCast S4x1x5632 (B (Proc.devRef .tc main_arg3) : Vec F S4x5632 .f32) shapeCasts_S4x5632_S4x1x5632 := by
  unfold st14; after_reads_simp
  try simp -implicitDefEqProofs only [StableHlo.TRef.toBuf, StableHlo.TRef.ofBuf, cast_cast, cast_eq]
  rw [at13_arg3]; rfl

end Cert.KernelIdeal.Rows

end
-- ==== Proof.Count.lean ====
/- The visits in plain numbers: which expert and which tile each visit takes, and which rows of the tile.

The rows 0 … 32767 are dealt to four experts in order, `s k` rows to expert `k`.  A tile is 512 rows.  A visit is one
tile and one expert with a row in it; the visits are made expert by expert, each expert's tiles in order. -/
module

public import Mathlib.Algebra.BigOperators.Group.List.Basic
public import Mathlib.Tactic.IntervalCases

@[expose] public section

namespace Cert.Count

variable (s : ℕ → ℕ)

/-- The sum of the first `k + 1` numbers. -/
def sumTo (f : ℕ → ℕ) (k : ℕ) : ℕ := ((List.range (k + 1)).map f).sum

theorem sumTo_zero (f : ℕ → ℕ) : sumTo f 0 = f 0 := by simp [sumTo]
theorem sumTo_succ (f : ℕ → ℕ) (k : ℕ) : sumTo f (k + 1) = sumTo f k + f (k + 1) := by
  simp [sumTo, List.range_succ, Nat.add_assoc]

/-- The row after expert `k`'s last, and its first row. -/
def stop (k : ℕ) : ℕ := sumTo s k
def start (k : ℕ) : ℕ := stop s k - s k
/-- Expert `k`'s first tile, its number of tiles, and the visits made up to its last. -/
def tile0 (k : ℕ) : ℕ := start s k / 512
def tiles (k : ℕ) : ℕ := if 0 < s k then (stop s k + 511) / 512 - tile0 s k else 0
def visits (k : ℕ) : ℕ := sumTo (tiles s) k
/-- Visit `v`, clipped to the last there is to make. -/
def vis (v : ℕ) : ℕ := min v (visits s 3 - 1)
/-- The expert of visit `v`. -/
def expert (v : ℕ) : ℕ := ((List.range 4).map fun k => if visits s k ≤ vis s v then 1 else 0).sum
/-- A number of each expert, at visit `v`'s expert. -/
def at' (y : ℕ → ℕ) (v : ℕ) : ℕ := y (min (expert s v) 3)
/-- The tile of visit `v`, and the rows of it that precede the expert's first row and its end. -/
def tile (v : ℕ) : ℕ := at' s (tile0 s) v + vis s v - (at' s (visits s) v - at' s (tiles s) v)
def lo (v : ℕ) : ℕ := min 512 (at' s (start s) v - tile s v * 512)
def done (v : ℕ) : ℕ := min 512 (at' s (stop s) v - tile s v * 512)
/-- The end of the rows visit `v` computes: a visit past the last computes none. -/
def hi (v : ℕ) : ℕ := if v < visits s 3 then done s v else lo s v
/-- The expert row `R` belongs to. -/
def owner (R : ℕ) : ℕ := ((List.range 4).map fun k => if stop s k ≤ R then 1 else 0).sum

/-- What the four experts' numbers satisfy. -/
structure Deal (b e f n w : ℕ → ℕ) : Prop where
  b0 : b 0 = 0
  e3 : e 3 = 32768
  b1 : b 1 = e 0
  b2 : b 2 = e 1
  b3 : b 3 = e 2
  w0 : w 0 = n 0
  w1 : w 1 = w 0 + n 1
  w2 : w 2 = w 1 + n 2
  w3 : w 3 = w 2 + n 3
  some : ∀ k < 4, (e k = b k ∧ n k = 0 ∧ f k * 512 ≤ b k ∧ b k < f k * 512 + 512) ∨
    (b k < e k ∧ 0 < n k ∧ f k * 512 ≤ b k ∧ b k < f k * 512 + 512 ∧ 512 * (f k + n k) < e k + 512 ∧ e k ≤ 512 * (f k + n k))

variable {s} (hs : sumTo s 3 = 32768)
include hs

theorem deal : Deal (start s) (stop s) (tile0 s) (tiles s) (visits s) := by
  have e0 : stop s 0 = s 0 := sumTo_zero s
  have e1 : stop s 1 = stop s 0 + s 1 := sumTo_succ s 0
  have e2 : stop s 2 = stop s 1 + s 2 := sumTo_succ s 1
  have e3 : stop s 3 = stop s 2 + s 3 := sumTo_succ s 2
  refine ⟨by unfold start; omega, hs, by unfold start; omega, by unfold start; omega, by unfold start; omega, sumTo_zero _, sumTo_succ _ 0, sumTo_succ _ 1, sumTo_succ _ 2, ?_⟩
  intro k hk
  have hle : s k ≤ stop s k := by interval_cases k <;> omega
  unfold tiles tile0 start
  split <;> omega

theorem visits_pos : 1 ≤ visits s 3 ∧ visits s 3 ≤ 67 := by
  have d := deal hs
  obtain ⟨b0, e3, b1, b2, b3, w0, w1, w2, w3, h⟩ := d
  have h0 := h 0 (by omega); have h1 := h 1 (by omega); have h2 := h 2 (by omega); have h3 := h 3 (by omega)
  omega

theorem vis_lt (v : ℕ) : vis s v < visits s 3 := by have := visits_pos hs; unfold vis; omega

/-- The expert of a visit is the one whose visits it is among. -/
theorem expert_cases (v : ℕ) : (expert s v = 0 ∧ vis s v < visits s 0) ∨ (expert s v = 1 ∧ visits s 0 ≤ vis s v ∧ vis s v < visits s 1) ∨
    (expert s v = 2 ∧ visits s 1 ≤ vis s v ∧ vis s v < visits s 2) ∨ (expert s v = 3 ∧ visits s 2 ≤ vis s v ∧ vis s v < visits s 3) := by
  obtain ⟨b0, e3, b1, b2, b3, w0, w1, w2, w3, h⟩ := deal hs
  have hv := vis_lt hs v
  have : expert s v = (if visits s 0 ≤ vis s v then 1 else 0) + ((if visits s 1 ≤ vis s v then 1 else 0) + ((if visits s 2 ≤ vis s v then 1 else 0) + ((if visits s 3 ≤ vis s v then 1 else 0) + 0))) := rfl
  rw [this]
  split <;> split <;> split <;> split <;> omega

theorem expert_lt (v : ℕ) : expert s v < 4 := by
  rcases expert_cases hs v with h | h | h | h <;> omega

omit hs in
theorem at_eq (y : ℕ → ℕ) (v k : ℕ) (h : expert s v = k) (hk : k < 4) : at' s y v = y k := by
  unfold at'; rw [h, Nat.min_eq_left (by omega)]

/-- The whole of what is known of one visit: its expert `k`, and its tile. -/
theorem visit_spec (v : ℕ) : ∃ k < 4, expert s v = k ∧ visits s k - tiles s k ≤ vis s v ∧ vis s v < visits s k ∧ tiles s k ≤ visits s k ∧
    tile s v = tile0 s k + (vis s v - (visits s k - tiles s k)) ∧
    lo s v = min 512 (start s k - tile s v * 512) ∧ done s v = min 512 (stop s k - tile s v * 512) := by
  obtain ⟨b0, e3, b1, b2, b3, w0, w1, w2, w3, h⟩ := deal hs
  have key : ∃ k < 4, expert s v = k ∧ visits s k - tiles s k ≤ vis s v ∧ vis s v < visits s k ∧ tiles s k ≤ visits s k := by
    rcases expert_cases hs v with h | h | h | h
    · exact ⟨0, by omega, h.1, by omega, h.2, by omega⟩
    · exact ⟨1, by omega, h.1, by omega, h.2.2, by omega⟩
    · exact ⟨2, by omega, h.1, by omega, h.2.2, by omega⟩
    · exact ⟨3, by omega, h.1, by omega, h.2.2, by omega⟩
  obtain ⟨k, hk, hg, h1, h2, h3⟩ := key
  refine ⟨k, hk, hg, h1, h2, h3, ?_, ?_, ?_⟩
  · unfold tile; rw [at_eq _ v k hg hk, at_eq _ v k hg hk, at_eq _ v k hg hk]; omega
  · unfold lo; rw [at_eq _ v k hg hk]
  · unfold done; rw [at_eq _ v k hg hk]

/-- The rows of one tile that precede visit `v`'s end are fewer than 512 only if the visit ends the expert. -/
theorem tile_bounds (v : ℕ) : ∃ k < 4, expert s v = k ∧ tile s v * 512 < stop s k ∧ start s k < tile s v * 512 + 512 ∧ start s k < stop s k ∧ stop s k ≤ 32768 := by
  obtain ⟨k, hk, hg, h1, h2, h3, ht, hl, hd⟩ := visit_spec hs v
  obtain ⟨b0, e3, b1, b2, b3, w0, w1, w2, w3, h⟩ := deal hs
  refine ⟨k, hk, hg, ?_⟩
  have g0 := h 0 (by omega); have g1 := h 1 (by omega); have g2 := h 2 (by omega); have g3 := h 3 (by omega)
  interval_cases k <;> omega

theorem tile_lt (v : ℕ) : tile s v < 64 := by
  obtain ⟨k, hk, hg, h⟩ := tile_bounds hs v; omega

/-- A visit past the last has the tile and the expert of the one before, and no row. -/
theorem idle (v : ℕ) (hv : visits s 3 ≤ v) : expert s v = expert s (v - 1) ∧ tile s v = tile s (v - 1) ∧ hi s v = lo s v := by
  have hp := visits_pos hs
  have e : vis s v = vis s (v - 1) := by unfold vis; omega
  have eg : expert s v = expert s (v - 1) := by unfold expert; rw [e]
  refine ⟨eg, ?_, if_neg (by omega)⟩
  unfold tile at'; rw [e, eg]

theorem done_idle (v : ℕ) (hv : visits s 3 ≤ v) : done s v = done s (v - 1) := by
  obtain ⟨h1, h2, -⟩ := idle hs v hv
  unfold done at'; rw [h1, h2]

set_option maxHeartbeats 2000000 in
/-- From one visit to the next there to make. -/
theorem next (v : ℕ) (hv : v + 1 < visits s 3) :
    (expert s (v + 1) = expert s v ∧ tile s (v + 1) = tile s v + 1 ∧ done s v = 512 ∧ lo s (v + 1) = 0) ∨
    (tile s (v + 1) = tile s v ∧ lo s (v + 1) = done s v) ∨ (tile s (v + 1) = tile s v + 1 ∧ done s v = 512 ∧ lo s (v + 1) = 0) := by
  obtain ⟨k, hk, hg, h1, h2, h3, ht, hl, hd⟩ := visit_spec hs v
  obtain ⟨k', hk', hg', h1', h2', h3', ht', hl', hd'⟩ := visit_spec hs (v + 1)
  obtain ⟨b0, e3, b1, b2, b3, w0, w1, w2, w3, h⟩ := deal hs
  have e : vis s v = v := by unfold vis; omega
  have e' : vis s (v + 1) = v + 1 := by unfold vis; omega
  rw [e] at h1 h2 ht; rw [e'] at h1' h2' ht'
  have g0 := h 0 (by omega); have g1 := h 1 (by omega); have g2 := h 2 (by omega); have g3 := h 3 (by omega)
  clear h hs e e'
  rw [hg, hg', hl', hd]
  clear hl hl' hd hd' hg hg'
  interval_cases k <;> interval_cases k' <;> omega

end Cert.Count
-- ==== Proof.Cover.lean ====
/- The visits fill the tiles: at each visit the rows of its tile that are done are a prefix, at a tile's last visit all of
them are, and every tile is visited. -/
module

public import proofs.«01_k».proof.Proof.Count

@[expose] public section

namespace Cert.Count

variable {s : ℕ → ℕ} (hs : sumTo s 3 = 32768)
include hs

theorem owner_cases (R k : ℕ) (hk : k < 4) (h1 : start s k ≤ R) (h2 : R < stop s k) : owner s R = k := by
  obtain ⟨b0, e3, b1, b2, b3, w0, w1, w2, w3, h⟩ := deal hs
  have : owner s R = (if stop s 0 ≤ R then 1 else 0) + ((if stop s 1 ≤ R then 1 else 0) + ((if stop s 2 ≤ R then 1 else 0) + ((if stop s 3 ≤ R then 1 else 0) + 0))) := rfl
  rw [this]
  have g0 := h 0 (by omega); have g1 := h 1 (by omega); have g2 := h 2 (by omega); have g3 := h 3 (by omega)
  have m0 : start s 0 ≤ stop s 0 := by omega
  have m1 : stop s 0 ≤ stop s 1 := by omega
  have m2 : stop s 1 ≤ stop s 2 := by omega
  have m3 : stop s 2 ≤ stop s 3 := by omega
  clear g0 g1 g2 g3 h
  interval_cases k <;> split <;> split <;> split <;> split <;> omega

/-- The first visit starts at the first row. -/
theorem lo_zero : lo s 0 = 0 := by
  obtain ⟨k, hk, hg, h1, h2, h3, ht, hl, hd⟩ := visit_spec hs 0
  obtain ⟨b0, e3, b1, b2, b3, w0, w1, w2, w3, h⟩ := deal hs
  have e : vis s 0 = 0 := by unfold vis; omega
  rw [e] at h1 h2 ht
  rw [hl]
  have g0 := h 0 (by omega); have g1 := h 1 (by omega); have g2 := h 2 (by omega); have g3 := h 3 (by omega)
  clear h hd hg
  interval_cases k <;> omega

theorem lo_le_done (v : ℕ) : lo s v ≤ done s v := by
  obtain ⟨k, hk, hg, h1, h2, h3, ht, hl, hd⟩ := visit_spec hs v
  obtain ⟨k', hk', hg', h⟩ := tile_bounds hs v
  have : k = k' := hg.symm.trans hg'
  subst this
  rw [hl, hd]; omega

theorem done_le (v : ℕ) : done s v ≤ 512 := by unfold done; omega

theorem lo_le (v : ℕ) : lo s v ≤ 512 := by unfold lo; omega

theorem hi_le (v : ℕ) : hi s v ≤ done s v := by
  have := lo_le_done hs v
  unfold hi; split <;> omega

/-- A row a visit computes is of the visit's expert. -/
theorem mine_owner (v r : ℕ) (h1 : lo s v ≤ r) (h2 : r < hi s v) : r < done s v ∧ owner s (tile s v * 512 + r) = expert s v := by
  obtain ⟨k, hk, hg, -, -, -, ht, hl, hd⟩ := visit_spec hs v
  have hh := hi_le hs v
  refine ⟨by omega, ?_⟩
  rw [hg]
  exact owner_cases hs _ k hk (by omega) (by omega)

/-- At a tile's first visit the rows computed are all there are so far. -/
theorem first_zero (r : ℕ) (h : ¬ (lo s 0 ≤ r ∧ r < hi s 0)) : ¬ r < done s 0 := by
  have h0 := lo_zero hs
  have hp := visits_pos hs
  have : hi s 0 = done s 0 := if_pos (by omega)
  omega

theorem first_succ (v r : ℕ) (ht : tile s (v + 1) ≠ tile s v) (h : ¬ (lo s (v + 1) ≤ r ∧ r < hi s (v + 1))) : ¬ r < done s (v + 1) := by
  by_cases hv : v + 1 < visits s 3
  · have : hi s (v + 1) = done s (v + 1) := if_pos hv
    rcases next hs v hv with h' | h' | h' <;> omega
  · exact absurd (idle hs (v + 1) (by omega)).2.1 ht

/-- At a later visit of the tile they are added to those before. -/
theorem later_succ (v r : ℕ) (ht : tile s (v + 1) = tile s v) (h : ¬ (lo s (v + 1) ≤ r ∧ r < hi s (v + 1))) : r < done s (v + 1) ↔ r < done s v := by
  by_cases hv : v + 1 < visits s 3
  · have : hi s (v + 1) = done s (v + 1) := if_pos hv
    have := lo_le_done hs (v + 1)
    rcases next hs v hv with h' | h' | h' <;> omega
  · rw [done_idle hs (v + 1) (by omega)]; rfl

theorem done_last (v : ℕ) (hv : visits s 3 ≤ v + 1) : done s v = 512 := by
  obtain ⟨k, hk, hg, h1, h2, h3, ht, hl, hd⟩ := visit_spec hs v
  obtain ⟨b0, e3, b1, b2, b3, w0, w1, w2, w3, h⟩ := deal hs
  have e : vis s v = visits s 3 - 1 := by unfold vis; omega
  rw [e] at h1 h2 ht
  rw [hd]
  have g0 := h 0 (by omega); have g1 := h 1 (by omega); have g2 := h 2 (by omega); have g3 := h 3 (by omega)
  clear h hd hg hl
  interval_cases k <;> omega

/-- At a tile's last visit all its rows are done. -/
theorem done_full (v : ℕ) (h : v + 1 = 67 ∨ tile s (v + 1) ≠ tile s v) : done s v = 512 := by
  have hp := visits_pos hs
  by_cases hv : v + 1 < visits s 3
  · rcases next hs v hv with h' | h' | h' <;> omega
  · exact done_last hs v (by omega)

theorem visit_of (k i : ℕ) (hk : k < 4) (hi : i < tiles s k) : ∃ v < 67, tile s v = tile0 s k + i := by
  obtain ⟨b0, e3, b1, b2, b3, w0, w1, w2, w3, h⟩ := deal hs
  have hp := visits_pos hs
  have hw : tiles s k ≤ visits s k ∧ visits s k ≤ visits s 3 := by interval_cases k <;> omega
  refine ⟨visits s k - tiles s k + i, by omega, ?_⟩
  have e : vis s (visits s k - tiles s k + i) = visits s k - tiles s k + i := by unfold vis; omega
  obtain ⟨k', hk', hg, h1, h2, h3, ht, -⟩ := visit_spec hs (visits s k - tiles s k + i)
  have : k' = k := by
    rw [e] at h1 h2
    clear ht hg e b0 e3 b1 b2 b3 h
    interval_cases k <;> interval_cases k' <;> omega
  subst this
  rw [ht, e]; omega

/-- Every tile is visited. -/
theorem visited (T : ℕ) (hT : T < 64) : ∃ v < 67, tile s v = T := by
  obtain ⟨b0, e3, b1, b2, b3, w0, w1, w2, w3, h⟩ := deal hs
  have : ∃ k < 4, start s k ≤ T * 512 ∧ T * 512 < stop s k := by
    by_cases h0 : T * 512 < stop s 0
    · exact ⟨0, by omega, by omega, h0⟩
    by_cases h1 : T * 512 < stop s 1
    · exact ⟨1, by omega, by omega, h1⟩
    by_cases h2 : T * 512 < stop s 2
    · exact ⟨2, by omega, by omega, h2⟩
    · exact ⟨3, by omega, by omega, by omega⟩
  obtain ⟨k, hk, h1, h2⟩ := this
  have hk' := h k hk
  obtain ⟨v, hv, ht⟩ := visit_of hs k (T - tile0 s k) hk (by omega)
  exact ⟨v, hv, by omega⟩

end Cert.Count
-- ==== Proof.Words.lean ====
/- The host's arrays as numbers: each holds the words of the plain counts. -/
module

public import proofs.«01_k».proof.Proof.Rows
public import proofs.«01_k».proof.Proof.Cover
public import Idealize.ShloMosaic.Lib.Routing.Words
public import Idealize.ShloMosaic.Lib.Routing.Ops
public import Idealize.ShloMosaic.Lib.Routing.OpsSearch
public import Idealize.ShloMosaic.Lib.WordArith
public import Idealize.ShloMosaic.Lib.WordCmp

@[expose] public section

set_option maxRecDepth 16384

noncomputable section

namespace Cert.KernelIdeal.Rows

open Cert.KernelIdeal Cert.KernelIdeal.Gen
open Idealize.ShloMosaic Idealize.ShloMosaic.ValueIdx Idealize.ShloMosaic.Routing Idealize.ShloMosaic.WordCmp

/-- A row of words that holds the numbers `f`. -/
def Holds {n : ℕ} (x : IVec ⟨1, ![n]⟩ 32) (f : ℕ → ℕ) : Prop := ∀ k : Fin n, x (ix1 k) = BitVec.ofNat 32 (f k.val)

theorem ofNat_add (a b : ℕ) : BitVec.ofNat 32 a + BitVec.ofNat 32 b = BitVec.ofNat 32 (a + b) := BitVec.ofNat_add_ofNat _ _

/-- A difference clipped to 0 … 512. -/
theorem clip_word (a b : ℕ) (ha : a < 2 ^ 30) (hb : b < 2 ^ 30) :
    IntOp.minsi 512#32 (IntOp.maxsi 0#32 (BitVec.ofNat 32 a - BitVec.ofNat 32 b)) = BitVec.ofNat 32 (min 512 (a - b)) := by
  have hi : (BitVec.ofNat 32 a - BitVec.ofNat 32 b).toInt = (a : ℤ) - b := by
    rw [WordArith.toInt_sub_of_bounds _ _ (by rw [WordArith.toInt_ofNat_small a (by omega), WordArith.toInt_ofNat_small b (by omega)]; omega)
      (by rw [WordArith.toInt_ofNat_small a (by omega), WordArith.toInt_ofNat_small b (by omega)]; omega),
      WordArith.toInt_ofNat_small a (by omega), WordArith.toInt_ofNat_small b (by omega)]
  have hm : (IntOp.maxsi 0#32 (BitVec.ofNat 32 a - BitVec.ofNat 32 b)).toNat = a - b := by
    rw [WordArith.toNat_maxsi_zero, hi]; omega
  apply BitVec.eq_of_toNat_eq
  rw [WordArith.toNat_minsi_of_lt _ _ (by decide) (by rw [hm]; omega), hm, BitVec.toNat_ofNat, BitVec.toNat_ofNat]
  omega

theorem sums_at {x : IVec S4 32} {f : ℕ → ℕ} (h : Holds x f) : Holds (sums x) (Count.sumTo f) := fun k =>
  cumsum1 (N := 4) (Nm1 := 3) rfl x f h _ rfl reduceWindows_S4_S4_w4s1p3_0 h_S_ k

theorem tileOf_at {x : IVec S4 32} {f : ℕ → ℕ} (h : Holds x f) (hf : ∀ k < 4, f k < 2 ^ 31) : Holds (tileOf x) (fun k => f k / 512) := fun k =>
  pyDiv_ap bcast_S_S4 x (constantI S_ 32 512#32) (ix1 k) (h k) rfl (hf k.val k.isLt) (by omega) (by omega)

variable {x : IVec S4 32} {s : ℕ → ℕ} (hx : Holds x s) (hs : Count.sumTo s 3 = 32768)
include hs

/-- Every count is small. -/
theorem small (k : ℕ) (hk : k < 4) : s k ≤ Count.stop s k ∧ Count.stop s k ≤ 32768 ∧ Count.tile0 s k ≤ 64 ∧ Count.tiles s k ≤ Count.visits s k ∧ Count.visits s k ≤ 67 ∧
    Count.tile0 s k ≤ (Count.stop s k + 511) / 512 := by
  have hp := (Count.visits_pos hs).2
  have e0 : Count.stop s 0 = s 0 := Count.sumTo_zero s
  have e1 : Count.stop s 1 = Count.stop s 0 + s 1 := Count.sumTo_succ s 0
  have e2 : Count.stop s 2 = Count.stop s 1 + s 2 := Count.sumTo_succ s 1
  have e3 : Count.stop s 3 = Count.stop s 2 + s 3 := Count.sumTo_succ s 2
  have e : Count.stop s 3 = 32768 := hs
  have v0 : Count.visits s 0 = Count.tiles s 0 := Count.sumTo_zero _
  have v1 : Count.visits s 1 = Count.visits s 0 + Count.tiles s 1 := Count.sumTo_succ _ 0
  have v2 : Count.visits s 2 = Count.visits s 1 + Count.tiles s 2 := Count.sumTo_succ _ 1
  have v3 : Count.visits s 3 = Count.visits s 2 + Count.tiles s 3 := Count.sumTo_succ _ 2
  have h : s k ≤ Count.stop s k ∧ Count.stop s k ≤ 32768 ∧ Count.tiles s k ≤ Count.visits s k ∧ Count.visits s k ≤ 67 := by
    interval_cases k <;> omega
  have hb : Count.start s k ≤ Count.stop s k := by unfold Count.start; omega
  refine ⟨h.1, h.2.1, ?_, h.2.2.1, h.2.2.2, ?_⟩ <;> unfold Count.tile0 <;> omega

include hx

theorem ends_at : Holds (ends x) (Count.stop s) := sums_at hx

theorem starts_at : Holds (starts x) (Count.start s) := fun k => by
  unfold starts
  rw [subi_ap, ends_at hx hs k, hx k, ofNat32_sub (small hs k.val k.isLt).1]
  rfl

theorem firstTile_at : Holds (firstTile x) (Count.tile0 s) :=
  tileOf_at (starts_at hx hs) fun k hk => by have := small hs k hk; unfold Count.start; omega

theorem lastTile_at : Holds (lastTile x) (fun k => (Count.stop s k + 511) / 512) :=
  tileOf_at (f := fun k => Count.stop s k + 511) (fun k => by
    rw [subi_ap, addi_ap, ends_at hx hs k]
    show BitVec.ofNat 32 _ + BitVec.ofNat 32 512 - BitVec.ofNat 32 1 = _
    rw [ofNat_add, ofNat32_sub (by omega)]; rfl) fun k hk => by have := small hs k hk; omega

theorem tiles_at : Holds (tiles x) (Count.tiles s) := fun k => by
  have hk := small hs k.val k.isLt
  unfold tiles
  rw [select_at, cmpi_at, subi_ap, lastTile_at hx hs k, firstTile_at hx hs k, hx k]
  show Scalar.select (IntOp.cmpi .sgt (BitVec.ofNat 32 _) (BitVec.ofNat 32 0)) _ (BitVec.ofNat 32 0) = _
  rw [cmpi_sgt_ofNat (w := 32) (by omega) (by decide), select_decide, ofNat32_sub hk.2.2.2.2.2]
  unfold Count.tiles
  split <;> rfl

theorem visitEnd_at : Holds (visitEnd x) (Count.visits s) := sums_at (tiles_at hx hs)

theorem total_at : total x ValueIdx.ix0 = BitVec.ofNat 32 (Count.visits s 3) := by
  unfold total
  refine (shapeCast_apply _ shapeCasts_S1_S_ ValueIdx.ix0 (ix1 (0 : Fin 1)) ?_).trans ?_
  · rw [Shape.rowMajor_val_one]; decide
  · exact (slice1 3 (visitEnd x) slices_S4_S1_3 (0 : Fin 1) (by decide)).trans (visitEnd_at hx hs 3)

theorem real_at (v : Fin 67) : real x (ix1 v) = BitVec.ofBool (decide (v.val < Count.visits s 3)) := by
  have hp := Count.visits_pos hs
  unfold real count
  rw [cmpi_at, iota1_ap, bc0, total_at hx hs, cmpi_slt_ofNat (w := 32) (by omega) (by omega)]

theorem clipped_at : Holds (clipped x) (Count.vis s) := fun v => by
  have hp := Count.visits_pos hs
  have hv := v.isLt
  unfold clipped count
  rw [minsi_apply, iota1_ap, bc0, subi_ap, total_at hx hs, constantI_at]
  show IntOp.minsi _ (BitVec.ofNat 32 _ - BitVec.ofNat 32 1) = _
  rw [ofNat32_sub hp.1]
  apply BitVec.eq_of_toNat_eq
  rw [WordArith.toNat_minsi_of_lt _ _ (by rw [BitVec.toNat_ofNat]; omega) (by rw [BitVec.toNat_ofNat]; omega), BitVec.toNat_ofNat, BitVec.toNat_ofNat, BitVec.toNat_ofNat]
  unfold Count.vis
  omega

theorem expert_at : Holds (expert x) (Count.expert s) := fun v => by
  have hp := Count.vis_lt hs v.val
  have hp' := Count.visits_pos hs
  unfold expert
  refine (reduce_count (by decide) _ natLt_1_32 reducesTo_S67x4_S67_d1 h_S_ v (fun q => Count.visits s q ≤ Count.vis s v.val ∧ q < 4) fun q => ?_).trans ?_
  · rw [cmpi_at, bcRows, bcCols, clipped_at hx hs v, visitEnd_at hx hs q, cmpi_sge_ofNat_eq_one_iff (w := 32) (by omega) (by have := small hs q.val q.isLt; omega)]
    exact ⟨fun h => ⟨h, q.isLt⟩, fun h => h.1⟩
  · congr 1
    simp [Nat.count_succ, Count.expert, List.range_succ, Nat.add_assoc]

theorem take_at {y : IVec S4 32} {f : ℕ → ℕ} (hy : Holds y f) : Holds (take x y) (Count.at' s f) := fun v => by
  have hg := Count.expert_lt hs v.val
  unfold take
  have e : (broadcastInDim S67x1 ![0] bcast_S67_S67x1_0 (select (cmpi .slt (expert x) (spread67 0#32)) (addi (expert x) (spread67 4#32)) (expert x))) (ix2 v (0 : Fin 1))
      = BitVec.ofNat 32 (Count.expert s v.val) := by
    rw [bcCol, select_at, cmpi_at, expert_at hx hs v]
    show Scalar.select (IntOp.cmpi .slt (BitVec.ofNat 32 _) (BitVec.ofNat 32 0)) _ _ = _
    rw [cmpi_slt_ofNat (w := 32) (by omega) (by decide), select_decide, if_neg (by omega)]
  have hm : min (Count.expert s v.val) 3 = Count.expert s v.val := by omega
  refine (take_ap (N := 4) (n := 67) gather_S4_S67x1_S67_n_0_n_n_0_1_1 rfl rfl rfl rfl y _ v hg (by omega) e).trans ?_
  rw [hy]
  unfold Count.at'
  rw [hm]

theorem at_le (f : ℕ → ℕ) (b v : ℕ) (h : ∀ k < 4, f k ≤ b) : Count.at' s f v ≤ b := h _ (by omega)

theorem tile_at : Holds (tile x) (Count.tile s) := fun v => by
  have hg := Count.expert_lt hs v.val
  obtain ⟨k, hk, hgk, h1, h2, h3, ht, -⟩ := Count.visit_spec hs v.val
  unfold tile
  rw [subi_ap, addi_ap, subi_ap, take_at hx hs (firstTile_at hx hs) v, take_at hx hs (visitEnd_at hx hs) v, take_at hx hs (tiles_at hx hs) v, clipped_at hx hs v,
    Count.at_eq _ v.val k hgk hk, Count.at_eq _ v.val k hgk hk, Count.at_eq _ v.val k hgk hk, ofNat_add, ofNat32_sub h3, ofNat32_sub (by omega), ht]
  congr 1
  omega

theorem clip_at {y : IVec S4 32} {f : ℕ → ℕ} (hy : Holds y f) (hf : ∀ k < 4, f k ≤ 32768) :
    Holds (clip (subi (take x y) (muli (tile x) (spread67 512#32)))) (fun v => min 512 (Count.at' s f v - Count.tile s v * 512)) := fun v => by
  have ht := Count.tile_lt hs v.val
  have ha : Count.at' s f v.val ≤ 32768 := hf _ (by omega)
  unfold clip
  rw [minsi_apply, maxsi_apply, subi_ap, muli_ap, take_at hx hs hy v, tile_at hx hs v]
  show IntOp.minsi 512#32 (IntOp.maxsi 0#32 (_ - BitVec.ofNat 32 _ * BitVec.ofNat 32 512)) = _
  rw [← BitVec.ofNat_mul, clip_word _ _ (by omega) (by omega)]

theorem lo_at : Holds (lo x) (Count.lo s) := clip_at hx hs (starts_at hx hs) fun k hk => by have := small hs k hk; unfold Count.start; omega

theorem hi_at : Holds (hi x) (Count.hi s) := fun v => by
  unfold hi
  rw [select_at, real_at hx hs v, select_decide, clip_at hx hs (ends_at hx hs) (fun k hk => (small hs k hk).2.1) v, lo_at hx hs v]
  unfold Count.hi
  split <;> rfl

/-- The mark is one at a tile's first visit and zero at a later one. -/
theorem first_zero : first x (ix1 (0 : Fin 67)) = 1#32 := by
  unfold first
  rw [extui_apply, concatenate_pair_apply_left (t := S67) 0 _ _ concatenates_S1_S66_S67_d0 (ix1 (0 : Fin 67)) rfl (ix1 (0 : Fin 1)) (fun b => by match b with | ⟨0, _⟩ => rfl)]
  rfl

theorem first_succ (v : ℕ) (hv : v + 1 < 67) : first x (ix1 (⟨v + 1, hv⟩ : Fin 67)) = BitVec.ofNat 32 (if Count.tile s (v + 1) ≠ Count.tile s v then 1 else 0) := by
  have h1 := Count.tile_lt hs v
  have h2 := Count.tile_lt hs (v + 1)
  unfold first
  rw [extui_apply, concatenate_pair_apply_right (t := S67) 0 _ _ concatenates_S1_S66_S67_d0 (ix1 (⟨v + 1, hv⟩ : Fin 67)) rfl rfl (ix1 (⟨v, by omega⟩ : Fin 66))
    (fun b hb => by match b with | ⟨0, _⟩ => exact absurd rfl hb) rfl, cmpi_at, slice1 1 _ _ _ (by show 1 + v < 67; omega), slice1 0 _ _ _ (by show 0 + v < 67; omega),
    tile_at hx hs, tile_at hx hs, cmpi_ne_ofNat (w := 32) (by show Count.tile s (1 + v) < _; rw [Nat.add_comm]; omega) (by show Count.tile s (0 + v) < _; rw [Nat.zero_add]; omega), setWidth_ofBool]
  show BitVec.ofNat 32 (if Count.tile s (1 + v) ≠ Count.tile s (0 + v) then 1 else 0) = _
  rw [Nat.add_comm 1 v, Nat.zero_add]

end Cert.KernelIdeal.Rows

end
-- ==== Proof.Sizes.lean ====
/- What the precondition says of the four sizes: none negative, and 32768 rows in all. -/
module

public import proofs.«01_k».proof.Proof.Words
public import proofs.«01_k».proof.Proof.Gen.Pre_sizes_ok
public import Idealize.ShloMosaic.Lib.ReduceAll

@[expose] public section

set_option maxRecDepth 16384

noncomputable section

namespace Cert.KernelIdeal.Sizes

open Idealize.ShloMosaic Idealize.ShloMosaic.ValueIdx Idealize.ShloMosaic.Routing Idealize.ShloMosaic.WordCmp
open Cert.KernelIdeal.Rows (Holds)

/-- The sizes as numbers. -/
def nat (x : IVec ⟨1, ![4]⟩ 32) (k : ℕ) : ℕ := if h : k < 4 then (x (ix1 (⟨k, h⟩ : Fin 4))).toNat else 0

theorem nat_holds (x : IVec ⟨1, ![4]⟩ 32) : Holds x (nat x) := fun k => by
  unfold nat
  rw [dif_pos k.isLt, BitVec.ofNat_toNat, BitVec.setWidth_eq]

variable {F : FTy → Type} [FloatOps F] [Cert.Pre_sizes_ok.Facts]
open Cert.Pre_sizes_ok

/-- Under the precondition the sizes add up to the rows. -/
theorem nat_sum (a0 : FVec F S32768x2816 .fp8e4m3) (a1 : FVec F S32768x1 .f32) (a2 : FVec F S4x2816x5632 .fp8e4m3) (a3 : FVec F S4x5632 .f32) (x : IVec S4 32)
    (h : Cert.Pre_sizes_ok.fn (F := F) a0 a1 a2 a3 x = fun _ => 1#1) : Count.sumTo (nat x) 3 = 32768 := by
  have h0 := congrFun h ValueIdx.ix0
  unfold Cert.Pre_sizes_ok.fn at h0
  simp only [andi_at, cmpi_at, constantI_at] at h0
  obtain ⟨h1, h3⟩ := IntOp.andi_eq_one.1 h0
  obtain ⟨h1, h2⟩ := IntOp.andi_eq_one.1 h1
  haveI : Subsingleton S_.Idx := ⟨fun a b => funext fun d => d.elim0⟩
  have hle : ∀ k : Fin 4, (x (ix1 k)).toNat ≤ 32768 := fun k => by
    have e1 : IntOp.cmpi .sge (x (ix1 k)) 0#32 = 1#1 := Host.reduce_andi_all _ _ Facts.reducesTo_S4_S_d0 Facts.h_S_ _ h1 (ix1 k)
    have e3 : IntOp.cmpi .sle (x (ix1 k)) 32768#32 = 1#1 := Host.reduce_andi_all _ _ Facts.reducesTo_S4_S_d0 Facts.h_S_ _ h3 (ix1 k)
    have g1 : (0#32 : BitVec 32).sle (x (ix1 k)) = true := (WordArith.ofBool_eq_one_iff _).1 e1
    have g3 : (x (ix1 k)).sle 32768#32 = true := (WordArith.ofBool_eq_one_iff _).1 e3
    rw [BitVec.sle, decide_eq_true_eq] at g1 g3
    have t0 : (0#32 : BitVec 32).toInt = 0 := by decide
    have t3 : (32768#32 : BitVec 32).toInt = 32768 := by decide
    rw [t0] at g1
    rw [t3] at g3
    have := BitVec.toInt_eq_toNat_cond (x (ix1 k))
    have := (x (ix1 k)).isLt
    split at * <;> omega
  have e2 : BitVec.ofNat 32 ((List.range 4).map (nat x)).sum = 32768#32 :=
    (reduce_sum (N := 4) x (nat x) (nat_holds x) Facts.reducesTo_S4_S_d0 Facts.h_S_).symm.trans (StableHlo.Predicate.cmpi_eq_iff.1 h2)
  have hb : ∀ k < 4, nat x k ≤ 32768 := fun k hk => by unfold nat; rw [dif_pos hk]; exact hle ⟨k, hk⟩
  have e4 := congrArg BitVec.toNat e2
  have b0 := hb 0 (by omega); have b1 := hb 1 (by omega); have b2 := hb 2 (by omega); have b3 := hb 3 (by omega)
  have es : ((List.range 4).map (nat x)).sum = nat x 0 + nat x 1 + nat x 2 + nat x 3 := by
    simp [List.range_succ, Nat.add_assoc]
  show ((List.range 4).map (nat x)).sum = 32768
  rw [BitVec.toNat_ofNat, es] at e4
  rw [es]
  have : (32768#32 : BitVec 32).toNat = 32768 := by decide
  omega

end Cert.KernelIdeal.Sizes

end
-- ==== Proof.Steps.lean ====
/- Loads and stores of buffers owned by their values: a load reads the buffer or a window of it, a store puts its payload over a window. -/
module

public import proofs.«01_k».proof.Proof.Gen.KernelIdeal.Launch
public import proofs.«01_k».proof.Proof.Gen.KernelIdeal.Skeleton
public import Idealize.ShloMosaic.Lib.VecWindow
public import Idealize.ShloMosaic.Lib.Pipeline.TableIdle
public import Idealize.ShloMosaic.Lib.Pipeline.FrameBody
public import Idealize.ShloMosaic.Lib.Pipeline.Frame
public import Idealize.ShloMosaic.Lib.Tactic

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A program of the body run on device `c`. -/
abbrev runs (c : Dev nD) (E : Set ℕ) {α : Type} (p : Prog (TpuEff nD τ sig (Elt F) Λ₀ .tc) α) (K : α → sProp 𝕄) : sProp 𝕄 :=
  wp frame (wpE (defs₀ (F := F)) Variants.none (c : Thread nD τ) none) E p K

variable {c : Dev nD} {E : Set ℕ} {s : Shape} {e : EltTy}

/-- A load of the whole buffer reads its values. -/
theorem load_whole {m : Memref sig .tc .vmem s e} {X : s.Idx → Elt F e} {off : Fin s.rank → ℕ} {inb : ∀ a, off a + s.size a ≤ s.size a}
    {hl : m.view.LoadsAt (Rect.unit off s.size inb).toLoadRect} {K : (s.Idx → Elt F e) → sProp 𝕄} :
    (owns (c : Thread nD τ) m fullShare X : sProp 𝕄) ⊢ iprop((owns (c : Thread nD τ) m fullShare X -∗ K X)
      -∗ runs c E (Prog.lift (.load m (Rect.unit off s.size inb).toLoadRect hl)) K) := by
  rw [owns_eq_rep]
  have h := wp_load (defs := defs₀ (F := F)) Variants.none (c : Thread nD τ) none (Γ := .empty) E (Q := K) (m := m) (r := (Rect.unit off s.size inb).toLoadRect) (hl := hl)
    (k := .ret) (S := m.view.set) (q := fullShare) (f := m.view.rep X) (by exact View.setOn_subset_set ..)
  rw [View.readAt_rep_full] at h
  exact h.trans (wand_mono_left (wand_mono_right fupd_intro))

/-- A load of a window of the buffer reads that window of its values. -/
theorem load_window {m : Memref sig .tc .vmem s e} {X : s.Idx → Elt F e} {off size : Fin s.rank → ℕ} {inb : ∀ a, off a + size a ≤ s.size a}
    {hl : m.view.LoadsAt (Rect.unit off size inb).toLoadRect} {K : ((Rect.unit off size inb).shape.Idx → Elt F e) → sProp 𝕄} :
    (owns (c : Thread nD τ) m fullShare X : sProp 𝕄) ⊢ iprop((owns (c : Thread nD τ) m fullShare X -∗ K (VecWindow.window X off size inb))
      -∗ runs c E (Prog.lift (.load m (Rect.unit off size inb).toLoadRect hl)) K) := by
  rw [owns_eq_rep]
  have h := wp_load (defs := defs₀ (F := F)) Variants.none (c : Thread nD τ) none (Γ := .empty) E (Q := K) (m := m) (r := (Rect.unit off size inb).toLoadRect) (hl := hl)
    (k := .ret) (S := m.view.set) (q := fullShare) (f := m.view.rep X) (by exact View.setOn_subset_set ..)
  rw [View.readAt_rep_unit _ _ _ rfl inb] at h
  exact h.trans (wand_mono_left (wand_mono_right fupd_intro))

/-- A store over a window of the buffer puts its payload there. -/
theorem store_window {m : Memref sig .tc .vmem s e} {X : s.Idx → Elt F e} {off size : Fin s.rank → ℕ} {inb : ∀ a, off a + size a ≤ s.size a}
    {w : (Rect.unit off size inb).shape.Idx → Elt F e} {hx : (m.access (Rect.unit off size inb)).Stores Finset.univ} {hm : Finset.univ = Finset.univ ∨ ∀ a, (Rect.unit off size inb).stride a = 1}
    {K : PUnit → sProp 𝕄} :
    (owns (c : Thread nD τ) m fullShare X : sProp 𝕄) ⊢ iprop((owns (c : Thread nD τ) m fullShare (VecWindow.put X off size w) -∗ K ⟨⟩)
      -∗ runs c E (Prog.lift (.store m (Rect.unit off size inb) w Finset.univ hx hm)) K) := by
  rw [owns_eq_rep]
  have h := wp_store_writes₀ (defs := defs₀ (F := F)) Variants.none (c : Thread nD τ) none E (Q := K) (m := m) (r := Rect.unit off size inb) (w := w) (hx := hx) (hm := hm)
    (k := .ret) (S := m.view.set) (f := m.view.rep X) (View.set_slice_subset ..)
  refine h.trans (wand_mono_left (wand_mono ?_ fupd_intro))
  exact (pointsTo_rep_of_read (c : Thread nD τ) m _ fullShare _ (View.read_writes_rep_unit m.view X inb w rfl)).trans (owns_of_rep _ _ _ _)

end Cert.KernelIdeal.Body

end
-- ==== Proof.Body.lean ====
/- What one visit of the kernel does to its output block, as a plain function of the blocks it reads and the words `lo`, `hi`, `first` of the visit. -/
module

public import proofs.«01_k».proof.Proof.Steps

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of visits as the body is handed it. -/
abbrev tbM : Memref sig .tc .smem S5x67 .i32 := Memref.whole main_v88
abbrev htbM : tbM.IsWhole := Memref.isWhole_whole _

/-- The table held at the body's half share. -/
abbrev tbPt (c : Dev nD) {S : Shape} {e : EltTy} (M : Memref sig .tc .smem S e) (f : Buf (Elt F) (M.view.loc (c : Thread nD τ))) : sProp 𝕄 :=
  M.view.loc (c : Thread nD τ) ↦{fullShare.right} f

/-- The word of the table at the offsets `off`, as the body loads it. -/
abbrev word (c : Dev nD) (T : Buf (Elt F) (tbM.view.loc (c : Thread nD τ))) (off : Fin 2 → Nat) (h : ∀ a, off a + S1x1.size a ≤ S5x67.size a) : Elt F .i32 :=
  (tbM.access (Rect.unit (s := S5x67) off S1x1.size h)).read (Elt F) T (Shape.Idx.first (numel1_S1x1.symm ▸ Nat.one_pos))

/-- A load of a word of the table. -/
theorem load_word {c : Dev nD} {E : Set ℕ} {T : Buf (Elt F) (tbM.view.loc (c : Thread nD τ))} {off : Fin 2 → Nat} {h : ∀ a, off a + S1x1.size a ≤ S5x67.size a}
    {K : Elt F .i32 → sProp 𝕄} :
    (tbPt c tbM T : sProp 𝕄) ⊢ iprop((tbPt c tbM T -∗ K (word c T off h))
      -∗ runs c E (smemLoad tbM (Rect.unit (s := S5x67) off S1x1.size h) numel1_S1x1 rfl) K) := by
  refine (wp_smemLoadElt (defs := defs₀ (F := F)) Variants.none (c : Thread nD τ) none (Γ := .empty) E (Q := K) (m := tbM) (r := Rect.unit (s := S5x67) off S1x1.size h)
    (hw := View.loads_smem_one rfl numel1_S1x1) (x := Shape.Idx.first (numel1_S1x1.symm ▸ Nat.one_pos)) (k := .ret) (S := Finset.univ) (q := fullShare.right) (f := T) (Finset.subset_univ _)).trans ?_
  exact wand_mono_left (wand_mono_right fupd_intro)

theorem and_bit (a b : BitVec 1) : Scalar.andi a b = 1#1 ↔ a = 1#1 ∧ b = 1#1 := by revert a b; decide
theorem not_bit (a : BitVec 1) : Scalar.xori a 1#1 = 1#1 ↔ ¬ a = 1#1 := by revert a; decide

/-- The visit's rows are all of its block. -/
theorem cond1_iff (lo hi : BitVec 32) : k0_cond1 lo hi = 1#1 ↔ lo = 0#32 ∧ hi = 512#32 := by
  unfold k0_cond1
  exact (Scalar.guard_iff _).trans ((and_bit _ _).trans (and_congr IntOp.cmpi_eq IntOp.cmpi_eq))
/-- The visit is its block's first, and not a whole one. -/
theorem cond2_iff (lo hi first : BitVec 32) : k0_cond2 lo hi first = 1#1 ↔ ¬ (lo = 0#32 ∧ hi = 512#32) ∧ first = 1#32 := by
  unfold k0_cond2
  exact (Scalar.guard_iff _).trans ((and_bit _ _).trans (and_congr ((not_bit _).trans (not_congr ((and_bit _ _).trans (and_congr IntOp.cmpi_eq IntOp.cmpi_eq)))) IntOp.cmpi_eq))
/-- The visit has rows, and not all of its block. -/
theorem cond3_iff (lo hi : BitVec 32) : k0_cond3 lo hi = 1#1 ↔ ¬ (lo = 0#32 ∧ hi = 512#32) ∧ lo.toInt < hi.toInt := by
  unfold k0_cond3
  exact (Scalar.guard_iff _).trans ((and_bit _ _).trans (and_congr ((not_bit _).trans (not_congr ((and_bit _ _).trans (and_congr IntOp.cmpi_eq IntOp.cmpi_eq)))) IntOp.cmpi_sgt))

/-- A store of the whole shape leaves the payload. -/
theorem put_full {α : Type} {s : Shape} (x : s.Idx → α) (off : Fin s.rank → ℕ) (h0 : ∀ a, off a = 0) (w : s.Idx → α) : VecWindow.put x off s.size w = w := by
  funext y
  have h : ∀ a, off a ≤ (y a).val ∧ (y a).val < off a + s.size a := fun a => by have := (y a).isLt; have := h0 a; omega
  refine (dif_pos h).trans (congrArg w (funext fun a => Fin.ext ?_))
  show (y a).val - off a = (y a).val
  have := h0 a; omega

/-- The offsets of column block `n` of the output, of the matrix and of the column scales stay inside. -/
theorem inb6 (n : ℕ) (hn : n < 11) : ∀ a, (![0, 512 * n] : Fin 2 → ℕ) a + S512x512.size a ≤ S512x5632.size a := by
  intro a; match a with
  | ⟨0, _⟩ => exact Nat.le_refl _
  | ⟨1, _⟩ => show 512 * n + 512 ≤ 5632; omega
theorem inb4 (n : ℕ) (hn : n < 11) : ∀ a, (![0, 0, 512 * n] : Fin 3 → ℕ) a + S1x2816x512.size a ≤ S1x2816x5632.size a := by
  intro a; match a with
  | ⟨0, _⟩ => exact Nat.le_refl _
  | ⟨1, _⟩ => exact Nat.le_refl _
  | ⟨2, _⟩ => show 512 * n + 512 ≤ 5632; omega
theorem inb5 (n : ℕ) (hn : n < 11) : ∀ a, (![0, 0, 512 * n] : Fin 3 → ℕ) a + S1x1x512.size a ≤ S1x1x5632.size a := by
  intro a; match a with
  | ⟨0, _⟩ => exact Nat.le_refl _
  | ⟨1, _⟩ => exact Nat.le_refl _
  | ⟨2, _⟩ => show 512 * n + 512 ≤ 5632; omega

/-- Column block `n` of the scaled product of the rows `x` with the matrix `w`. -/
def colBlock (x : Vec F S512x2816 .fp8e4m3) (xs : Vec F S512x1 .f32) (w : Vec F S1x2816x5632 .fp8e4m3) (ws : Vec F S1x1x5632 .f32) (n : ℕ) (hn : n < 11) : Vec F S512x512 .bf16 :=
  k0_pay3 x (VecWindow.window w ![0, 0, 512 * n] S1x2816x512.size (inb4 n hn)) xs (VecWindow.window ws ![0, 0, 512 * n] S1x1x512.size (inb5 n hn))

/-- Column block `n` of a visit that keeps the rows outside `lo ≤ row < hi`. -/
def colMasked (lo hi : Elt F .i32) (x : Vec F S512x2816 .fp8e4m3) (xs : Vec F S512x1 .f32) (w : Vec F S1x2816x5632 .fp8e4m3) (ws : Vec F S1x1x5632 .f32) (old : Vec F S512x5632 .bf16)
    (n : ℕ) (hn : n < 11) : Vec F S512x512 .bf16 :=
  k0_pay17 lo hi x (VecWindow.window w ![0, 0, 512 * n] S1x2816x512.size (inb4 n hn)) xs (VecWindow.window ws ![0, 0, 512 * n] S1x1x512.size (inb5 n hn))
    (VecWindow.window old ![0, 512 * n] S512x512.size (inb6 n hn))

/-- The output block after its first `n` column blocks are stored. -/
def wholeUpto (x : Vec F S512x2816 .fp8e4m3) (xs : Vec F S512x1 .f32) (w : Vec F S1x2816x5632 .fp8e4m3) (ws : Vec F S1x1x5632 .f32) (y : Vec F S512x5632 .bf16) :
    (n : ℕ) → n ≤ 11 → Vec F S512x5632 .bf16
  | 0, _ => y
  | n + 1, h => VecWindow.put (wholeUpto x xs w ws y n (by omega)) ![0, 512 * n] S512x512.size (colBlock x xs w ws n (by omega))

/-- The output block after its first `n` column blocks are stored under the mask. -/
def maskedUpto (lo hi : Elt F .i32) (x : Vec F S512x2816 .fp8e4m3) (xs : Vec F S512x1 .f32) (w : Vec F S1x2816x5632 .fp8e4m3) (ws : Vec F S1x1x5632 .f32) (y : Vec F S512x5632 .bf16) :
    (n : ℕ) → n ≤ 11 → Vec F S512x5632 .bf16
  | 0, _ => y
  | n + 1, h => VecWindow.put (maskedUpto lo hi x xs w ws y n (by omega)) ![0, 512 * n] S512x512.size (colMasked lo hi x xs w ws (maskedUpto lo hi x xs w ws y n (by omega)) n (by omega))

/-- The output block after a visit. -/
def step (lo hi first : Elt F .i32) (x : Vec F S512x2816 .fp8e4m3) (xs : Vec F S512x1 .f32) (w : Vec F S1x2816x5632 .fp8e4m3) (ws : Vec F S1x1x5632 .f32) (y : Vec F S512x5632 .bf16) :
    Vec F S512x5632 .bf16 :=
  if k0_cond1 lo hi = 1#1 then wholeUpto x xs w ws y 11 le_rfl
  else if k0_cond3 lo hi = 1#1 then maskedUpto lo hi x xs w ws (if k0_cond2 lo hi first = 1#1 then k0_pay1 (F := F) else y) 11 le_rfl
  else if k0_cond2 lo hi first = 1#1 then k0_pay1 (F := F) else y

variable (c : Dev nD) (i : grid0.Coords)
  (arg2 : Memref sig .tc .vmem S512x2816 .fp8e4m3) (harg2 : arg2.IsWhole) (arg3 : Memref sig .tc .vmem S512x1 .f32) (harg3 : arg3.IsWhole)
  (arg4 : Memref sig .tc .vmem S1x2816x5632 .fp8e4m3) (harg4 : arg4.IsWhole) (arg5 : Memref sig .tc .vmem S1x1x5632 .f32) (harg5 : arg5.IsWhole)
  (arg6 : Memref sig .tc .vmem S512x5632 .bf16) (harg6 : arg6.IsWhole)
  (T : Buf (Elt F) (tbM.view.loc (c : Thread nD τ)))
  (x : Vec F S512x2816 .fp8e4m3) (xs : Vec F S512x1 .f32) (w : Vec F S1x2816x5632 .fp8e4m3) (ws : Vec F S1x1x5632 .f32) (y : Vec F S512x5632 .bf16)

/-- The eleven column blocks of a whole visit up to the last store. -/
theorem whole_part (E : Set ℕ) (K : FVec F S512x512 .bf16 → sProp 𝕄) :
    iprop(owns (c : Thread nD τ) arg2 fullShare x ∗ owns (c : Thread nD τ) arg3 fullShare xs ∗ owns (c : Thread nD τ) arg4 fullShare w ∗ owns (c : Thread nD τ) arg5 fullShare ws
        ∗ owns (c : Thread nD τ) arg6 fullShare y
        ∗ (iprop(owns (c : Thread nD τ) arg2 fullShare x ∗ owns (c : Thread nD τ) arg3 fullShare xs ∗ owns (c : Thread nD τ) arg4 fullShare w ∗ owns (c : Thread nD τ) arg5 fullShare ws
          ∗ owns (c : Thread nD τ) arg6 fullShare (wholeUpto x xs w ws y 10 (by omega))) -∗ K (colBlock x xs w ws 10 (by omega))))
      ⊢ runs c E (k0_part5 i tbM htbM arg2 harg2 arg3 harg3 arg4 harg4 arg5 harg5 arg6 harg6) K := by
  have hlast : colBlock x xs w ws 10 (by omega) = k0_pay15 x (VecWindow.window w ![0, 0, 5120] ![1, 2816, 512] inb_S1x2816x5632_S1x2816x512_0_0_5120) xs
      (VecWindow.window ws ![0, 0, 5120] ![1, 1, 512] inb_S1x1x5632_S1x1x512_0_0_5120) := rfl
  simp only [k0_part1_eq_skeleton, k0_part2_eq_skeleton, k0_part3_eq_skeleton, k0_part4_eq_skeleton, k0_part5_eq_skeleton, k0_part1_skel, k0_part2_skel, k0_part3_skel, k0_part4_skel,
    k0_part5_skel, bind_assoc, pure_bind]
  simp only [wp_bind]
  iintro ⟨H2, H3, H4, H5, H6, Hk⟩
  iterate 10
    iapply load_whole (m := arg2) $$ H2; iintro H2
    iapply load_window (m := arg4) $$ H4; iintro H4
    iapply load_whole (m := arg3) $$ H3; iintro H3
    iapply load_window (m := arg5) $$ H5; iintro H5
    iapply load_window (m := arg6) $$ H6; iintro H6
    iapply store_window (m := arg6) $$ H6; iintro H6
  iapply load_whole (m := arg2) $$ H2; iintro H2
  iapply load_window (m := arg4) $$ H4; iintro H4
  iapply load_whole (m := arg3) $$ H3; iintro H3
  iapply load_window (m := arg5) $$ H5; iintro H5
  iapply load_window (m := arg6) $$ H6; iintro H6
  rw [wp_pure, ← hlast]; imodintro
  iapply Hk
  isplitl [H2]; · iexact H2
  isplitl [H3]; · iexact H3
  isplitl [H4]; · iexact H4
  isplitl [H5]; · iexact H5
  iexact H6

/-- The eleven column blocks of a masked visit. -/
theorem masked_part (lo hi : Elt F .i32) (E : Set ℕ) (K : PUnit → sProp 𝕄) :
    iprop(owns (c : Thread nD τ) arg2 fullShare x ∗ owns (c : Thread nD τ) arg3 fullShare xs ∗ owns (c : Thread nD τ) arg4 fullShare w ∗ owns (c : Thread nD τ) arg5 fullShare ws
        ∗ owns (c : Thread nD τ) arg6 fullShare y
        ∗ (iprop(owns (c : Thread nD τ) arg2 fullShare x ∗ owns (c : Thread nD τ) arg3 fullShare xs ∗ owns (c : Thread nD τ) arg4 fullShare w ∗ owns (c : Thread nD τ) arg5 fullShare ws
          ∗ owns (c : Thread nD τ) arg6 fullShare (maskedUpto lo hi x xs w ws y 11 (by omega))) -∗ K ⟨⟩))
      ⊢ runs c E (do
      let ⟨v26, v51, v53⟩ : Σ' (v26 : IVec S512x1 1) (v51 : FVec F S512x512 .f32), FVec F S1x512 .f32 ← k0_part6 i tbM htbM arg2 harg2 arg3 harg3 arg4 harg4 arg5 harg5 arg6 harg6 lo hi
      let v84 : FVec F S512x512 .f32 ← k0_part7 i tbM htbM arg2 harg2 arg3 harg3 arg4 harg4 arg5 harg5 arg6 harg6 v26 v51 v53
      let v117 : Vec F S512x2816 .fp8e4m3 ← k0_part8 i tbM htbM arg2 harg2 arg3 harg3 arg4 harg4 arg5 harg5 arg6 harg6 v26 v84
      let v151 : FVec F S512x512 .bf16 ← k0_part9 i tbM htbM arg2 harg2 arg3 harg3 arg4 harg4 arg5 harg5 arg6 harg6 v26 v117
      let v181 : FVec F S512x512 .f32 ← k0_part10 i tbM htbM arg2 harg2 arg3 harg3 arg4 harg4 arg5 harg5 arg6 harg6 v26 v151
      let ⟨v210, v212⟩ : Σ' (v210 : FVec F S512x512 .f32), FVec F S512x512 .f32 ← k0_part11 i tbM htbM arg2 harg2 arg3 harg3 arg4 harg4 arg5 harg5 arg6 harg6 v26 v181
      let v214 : Vec F S1x1x512 .f32 ← Prog.lift (.load arg5 (Rect.unit (s := S1x1x5632) ![0, 0, 5120] S1x1x512.size inb_S1x1x5632_S1x1x512_0_0_5120).toLoadRect (View.loadsAt_vmem h_S1x1x512))
      let v219 : Vec F S512x512 .bf16 ← Prog.lift (.load arg6 (Rect.unit (s := S512x5632) ![0, 5120] S512x512.size inb_S512x5632_S512x512_0_5120).toLoadRect (View.loadsAt_vmem h_S512x512))
      let v224 : Vec F S512x512 .bf16 ← Prog.lift (.load arg6 (Rect.unit (s := S512x5632) ![0, 5120] S512x512.size inb_S512x5632_S512x512_0_5120).toLoadRect (View.loadsAt_vmem h_S512x512))
      Prog.lift (.store arg6 (Rect.unit (s := S512x5632) ![0, 5120] S512x512.size inb_S512x5632_S512x512_0_5120) (k0_pay2 v26 v210 v212 v214 v219) Finset.univ (View.stores_vmem h_S512x512 (harg6.storeExact_slice rfl _ packedbf16_S512x5632_S512x512_0_5120) (fun _ => rfl)) (.inl rfl))
      pure ⟨⟩) K := by
  simp only [k0_part6_eq_skeleton, k0_part7_eq_skeleton, k0_part8_eq_skeleton, k0_part9_eq_skeleton, k0_part10_eq_skeleton, k0_part11_eq_skeleton, k0_part6_skel, k0_part7_skel, k0_part8_skel,
    k0_part9_skel, k0_part10_skel, k0_part11_skel, bind_assoc, pure_bind]
  simp only [wp_bind]
  iintro ⟨H2, H3, H4, H5, H6, Hk⟩
  iterate 11
    iapply load_whole (m := arg2) $$ H2; iintro H2
    iapply load_window (m := arg4) $$ H4; iintro H4
    iapply load_whole (m := arg3) $$ H3; iintro H3
    iapply load_window (m := arg5) $$ H5; iintro H5
    iapply load_window (m := arg6) $$ H6; iintro H6
    iapply load_window (m := arg6) $$ H6; iintro H6
    iapply store_window (m := arg6) $$ H6; iintro H6
  rw [wp_pure]; imodintro
  iapply Hk
  isplitl [H2]; · iexact H2
  isplitl [H3]; · iexact H3
  isplitl [H4]; · iexact H4
  isplitl [H5]; · iexact H5
  iexact H6

/-- Running one program and then the next. -/
theorem runs_bind {α β : Type} (E : Set ℕ) (p : Prog (TpuEff nD τ sig (Elt F) Λ₀ .tc) α) (k : α → Prog (TpuEff nD τ sig (Elt F) Λ₀ .tc) β) (K : β → sProp 𝕄) :
    runs c E p (fun a => runs c E (k a) K) ⊢ runs c E (p >>= k) K := by
  rw [runs, runs, wp_bind]

/-- A visit whose rows are all of its block zeroes nothing and keeps nothing. -/
theorem cond2_of_cond1 (lo hi first : BitVec 32) (h : k0_cond1 lo hi = 1#1) : ¬ k0_cond2 lo hi first = 1#1 :=
  fun h2 => ((cond2_iff lo hi first).mp h2).1 ((cond1_iff lo hi).mp h)
theorem cond3_of_cond1 (lo hi : BitVec 32) (h : k0_cond1 lo hi = 1#1) : ¬ k0_cond3 lo hi = 1#1 :=
  fun h3 => ((cond3_iff lo hi).mp h3).1 ((cond1_iff lo hi).mp h)

/-- One visit: from the blocks it is handed, the output block after it. -/
theorem body_step (E : Set ℕ) (K : PUnit → sProp 𝕄) :
    iprop(owns (c : Thread nD τ) arg2 fullShare x ∗ owns (c : Thread nD τ) arg3 fullShare xs ∗ owns (c : Thread nD τ) arg4 fullShare w ∗ owns (c : Thread nD τ) arg5 fullShare ws
        ∗ owns (c : Thread nD τ) arg6 fullShare y ∗ tbPt c tbM T
        ∗ (iprop(owns (c : Thread nD τ) arg2 fullShare x ∗ owns (c : Thread nD τ) arg3 fullShare xs ∗ owns (c : Thread nD τ) arg4 fullShare w ∗ owns (c : Thread nD τ) arg5 fullShare ws
          ∗ owns (c : Thread nD τ) arg6 fullShare (step (word c T (k0_off3 i) (k0_off3_inb i)) (word c T (k0_off4 i) (k0_off4_inb i)) (word c T (k0_off5 i) (k0_off5_inb i)) x xs w ws y)
          ∗ tbPt c tbM T) -∗ K ⟨⟩))
      ⊢ runs c E (cc0__grouped_matmul_kernel i tbM htbM arg2 harg2 arg3 harg3 arg4 harg4 arg5 harg5 arg6 harg6) K := by
  rw [cc0__grouped_matmul_kernel_eq_skeleton]; unfold cc0__grouped_matmul_kernel_skel
  iintro ⟨H2, H3, H4, H5, H6, HT, Hk⟩
  iapply runs_bind
  iapply load_word (c := c) $$ HT; iintro HT
  iapply runs_bind
  iapply load_word (c := c) $$ HT; iintro HT
  iapply runs_bind
  iapply load_word (c := c) $$ HT; iintro HT
  generalize word c T (k0_off3 i) (k0_off3_inb i) = lo
  generalize word c T (k0_off4 i) (k0_off4_inb i) = hi
  generalize word c T (k0_off5 i) (k0_off5_inb i) = first
  dsimp only
  by_cases h1 : k0_cond1 lo hi = 1#1
  · have h2 := cond2_of_cond1 lo hi first h1
    have h3 := cond3_of_cond1 lo hi h1
    rw [dif_pos h1, dif_neg h2, dif_neg h3, show step lo hi first x xs w ws y = wholeUpto x xs w ws y 11 le_rfl from if_pos h1]
    iapply runs_bind
    iapply whole_part c i arg2 harg2 arg3 harg3 arg4 harg4 arg5 harg5 arg6 harg6 x xs w ws y
    isplitl [H2]; · iexact H2
    isplitl [H3]; · iexact H3
    isplitl [H4]; · iexact H4
    isplitl [H5]; · iexact H5
    isplitl [H6]; · iexact H6
    iintro ⟨H2, H3, H4, H5, H6⟩
    iapply runs_bind
    iapply store_window (m := arg6) $$ H6; iintro H6
    rw [runs, wp_pure]; imodintro
    iapply Hk
    isplitl [H2]; · iexact H2
    isplitl [H3]; · iexact H3
    isplitl [H4]; · iexact H4
    isplitl [H5]; · iexact H5
    isplitl [H6]; · iexact H6
    iexact HT
  · rw [dif_neg h1, show step lo hi first x xs w ws y = if k0_cond3 lo hi = 1#1 then maskedUpto lo hi x xs w ws (if k0_cond2 lo hi first = 1#1 then k0_pay1 (F := F) else y) 11 le_rfl
      else if k0_cond2 lo hi first = 1#1 then k0_pay1 (F := F) else y from if_neg h1]
    by_cases h2 : k0_cond2 lo hi first = 1#1
    · rw [dif_pos h2, if_pos h2]
      iapply runs_bind
      iapply load_whole (m := arg6) $$ H6; iintro H6
      iapply runs_bind
      iapply store_window (m := arg6) $$ H6; iintro H6
      rw [show VecWindow.put y ![0, 0] S512x5632.size (k0_pay1 (F := F)) = k0_pay1 from put_full _ _ (by decide) _]
      by_cases h3 : k0_cond3 lo hi = 1#1
      · rw [dif_pos h3, if_pos h3]
        iapply masked_part c i arg2 harg2 arg3 harg3 arg4 harg4 arg5 harg5 arg6 harg6 x xs w ws
        isplitl [H2]; · iexact H2
        isplitl [H3]; · iexact H3
        isplitl [H4]; · iexact H4
        isplitl [H5]; · iexact H5
        isplitl [H6]; · iexact H6
        iintro ⟨H2, H3, H4, H5, H6⟩
        iapply Hk
        isplitl [H2]; · iexact H2
        isplitl [H3]; · iexact H3
        isplitl [H4]; · iexact H4
        isplitl [H5]; · iexact H5
        isplitl [H6]; · iexact H6
        iexact HT
      · rw [dif_neg h3, if_neg h3, runs, wp_pure]; imodintro
        iapply Hk
        isplitl [H2]; · iexact H2
        isplitl [H3]; · iexact H3
        isplitl [H4]; · iexact H4
        isplitl [H5]; · iexact H5
        isplitl [H6]; · iexact H6
        iexact HT
    · rw [dif_neg h2, if_neg h2]
      by_cases h3 : k0_cond3 lo hi = 1#1
      · rw [dif_pos h3, if_pos h3]
        iapply masked_part c i arg2 harg2 arg3 harg3 arg4 harg4 arg5 harg5 arg6 harg6 x xs w ws
        isplitl [H2]; · iexact H2
        isplitl [H3]; · iexact H3
        isplitl [H4]; · iexact H4
        isplitl [H5]; · iexact H5
        isplitl [H6]; · iexact H6
        iintro ⟨H2, H3, H4, H5, H6⟩
        iapply Hk
        isplitl [H2]; · iexact H2
        isplitl [H3]; · iexact H3
        isplitl [H4]; · iexact H4
        isplitl [H5]; · iexact H5
        isplitl [H6]; · iexact H6
        iexact HT
      · rw [dif_neg h3, if_neg h3, runs, wp_pure]; imodintro
        iapply Hk
        isplitl [H2]; · iexact H2
        isplitl [H3]; · iexact H3
        isplitl [H4]; · iexact H4
        isplitl [H5]; · iexact H5
        isplitl [H6]; · iexact H6
        iexact HT

end Cert.KernelIdeal.Body

end
-- ==== Proof.Table.lean ====
/- The table of visits as five rows of words, and what the pipeline asks of it: every tile and every expert inside its array. -/
module

public import proofs.«01_k».proof.Proof.Body

@[expose] public section

set_option maxRecDepth 16384

noncomputable section

namespace Cert.KernelIdeal.Table

open Cert.KernelIdeal Cert.KernelIdeal.Gen Cert.KernelIdeal.Body
open Idealize.ShloMosaic Idealize.ShloMosaic.TcCoe Idealize.ShloMosaic.Tactic
open Idealize.SL Idealize.SL.RA Idealize.SL.BI Idealize.SL.Sem

variable {F : FTy → Type} [FloatOps F]

/-- Row `r`, column `v` of the table's shape. -/
def at5 (r : Fin 5) (v : Fin 67) : S5x67.Idx := fun | 0 => r | 1 => v

/-- Row `r` of the table at visit `v`: the tile, the expert, the first row, the last row and the mark of a tile's first visit. -/
def tab (pf : pre0.Contents (Elt F)) (r : Fin 5) (v : Fin 67) : BitVec 32 := pf 0 (at5 r v)

/-- A point of the grid as a visit. -/
abbrev visit (i : grid0.Coords) : Fin 67 := i 0

theorem grid_word (i : grid0.Coords) : (BitVec.ofNat 32 (i 0).val).toNat = (i 0).val := by
  have : (i 0).val < 67 := (i 0).isLt
  rw [BitVec.toNat_ofNat]; omega

theorem idx_ext (x y : S5x67.Idx) (h0 : (x 0).val = (y 0).val) (h1 : (x 1).val = (y 1).val) : x = y := by
  funext a; match a with
  | ⟨0, _⟩ => exact Fin.ext h0
  | ⟨1, _⟩ => exact Fin.ext h1

/-- The table at an index with coordinates `r` and `v`. -/
theorem tab_at (pf : pre0.Contents (Elt F)) (x : S5x67.Idx) (r : Fin 5) (v : Fin 67) (h0 : (x 0).val = r.val) (h1 : (x 1).val = v.val) : pf 0 x = tab pf r v :=
  congrArg (pf 0) (idx_ext x (at5 r v) h0 h1)

theorem tile0 (pf : pre0.Contents (Elt F)) (i : grid0.Coords) : cc0_transform_0 k0_off1_inb numel1_S1x1 pf i = ![(tab pf 0 (visit i)).toNat, 0] := by
  refine congrArg (fun z : BitVec 32 => ![z.toNat, 0]) (tab_at pf _ 0 (visit i) ?_ ?_)
  · show 0 + 1 * 0 = 0; rfl
  · show (BitVec.ofNat 32 (i 0).val).toNat + 1 * 0 = (i 0).val; rw [grid_word]; rfl
theorem tile1 (pf : pre0.Contents (Elt F)) (i : grid0.Coords) : cc0_transform_1 k0_off1_inb numel1_S1x1 pf i = ![(tab pf 0 (visit i)).toNat, 0] := tile0 pf i
theorem tile4 (pf : pre0.Contents (Elt F)) (i : grid0.Coords) : cc0_transform_4 k0_off1_inb numel1_S1x1 pf i = ![(tab pf 0 (visit i)).toNat, 0] := tile0 pf i
theorem tile2 (pf : pre0.Contents (Elt F)) (i : grid0.Coords) : cc0_transform_2 k0_off2_inb numel1_S1x1 pf i = ![(tab pf 1 (visit i)).toNat, 0, 0] := by
  refine congrArg (fun z : BitVec 32 => ![z.toNat, 0, 0]) (tab_at pf _ 1 (visit i) ?_ ?_)
  · show 1 + 1 * 0 = 1; rfl
  · show (BitVec.ofNat 32 (i 0).val).toNat + 1 * 0 = (i 0).val; rw [grid_word]; rfl
theorem tile3 (pf : pre0.Contents (Elt F)) (i : grid0.Coords) : cc0_transform_3 k0_off2_inb numel1_S1x1 pf i = ![(tab pf 1 (visit i)).toNat, 0, 0] := tile2 pf i

/-- The words the body loads. -/
theorem word_eq (pf : pre0.Contents (Elt F)) (c : Dev nD) (i : grid0.Coords) (r : Fin 5) (off : Fin 2 → ℕ) (h) (h0 : off 0 = r.val) (h1 : off 1 = (i 0).val) :
    word c (pf 0) off h = tab pf r (visit i) := by
  refine tab_at pf _ r (visit i) ?_ ?_
  · show off 0 + 1 * 0 = r.val; omega
  · show off 1 + 1 * 0 = (i 0).val; omega
theorem word_lo (pf : pre0.Contents (Elt F)) (c : Dev nD) (i : grid0.Coords) : word c (pf 0) (k0_off3 i) (k0_off3_inb i) = tab pf 2 (visit i) :=
  word_eq pf c i 2 _ _ rfl (grid_word i)
theorem word_hi (pf : pre0.Contents (Elt F)) (c : Dev nD) (i : grid0.Coords) : word c (pf 0) (k0_off4 i) (k0_off4_inb i) = tab pf 3 (visit i) :=
  word_eq pf c i 3 _ _ rfl (grid_word i)
theorem word_first (pf : pre0.Contents (Elt F)) (c : Dev nD) (i : grid0.Coords) : word c (pf 0) (k0_off5 i) (k0_off5_inb i) = tab pf 4 (visit i) :=
  word_eq pf c i 4 _ _ rfl (grid_word i)

/-- The words the schedule's idle test reads. -/
theorem atD_eq (pf : pre0.Contents (Elt F)) (i : grid0.Coords) (r : Fin 5) (off : Fin 2 → ℕ) (h0 : off 0 = r.val) (h1 : off 1 = (i 0).val) :
    pf.atD 0 off = tab pf r (visit i) := by
  have h : ∀ a, off a + 1 ≤ S5x67.size a := by
    intro a; match a with
    | ⟨0, _⟩ => show off 0 + 1 ≤ 5; have := r.isLt; omega
    | ⟨1, _⟩ => show off 1 + 1 ≤ 67; have : (i 0).val < 67 := (i 0).isLt; omega
  refine (dif_pos h).trans ?_
  unfold tab
  exact congrArg (pf 0) (idx_ext _ (at5 r (visit i)) h0 h1)
theorem atD_lo (pf : pre0.Contents (Elt F)) (i : grid0.Coords) : pf.atD 0 (k0_off3 i) = tab pf 2 (visit i) := atD_eq pf i 2 _ rfl (grid_word i)
theorem atD_hi (pf : pre0.Contents (Elt F)) (i : grid0.Coords) : pf.atD 0 (k0_off4 i) = tab pf 3 (visit i) := atD_eq pf i 3 _ rfl (grid_word i)
theorem atD_first (pf : pre0.Contents (Elt F)) (i : grid0.Coords) : pf.atD 0 (k0_off5 i) = tab pf 4 (visit i) := atD_eq pf i 4 _ rfl (grid_word i)

/-- Tiles below 64 and experts below 4 keep every block inside its array. -/
theorem ok_of (pf : pre0.Contents (Elt F)) (ht : ∀ v, (tab pf 0 v).toNat < 64) (hg : ∀ v, (tab pf 1 v).toNat < 4) : ok0 pf := by
  unfold ok0
  refine ⟨fun i => ?_, fun i => ?_, fun i => ?_, fun i => ?_, fun i => ?_⟩
  · rw [tile0]
    refine ⟨fun a => ?_, .inr (.inl (.inr ⟨by decide, rfl, .inl ⟨?_, ?_⟩⟩))⟩
    · match a with
      | ⟨0, _⟩ => show ((tab pf 0 (visit i)).toNat + 1) * 512 ≤ 32768; have := ht (visit i); omega
      | ⟨1, _⟩ => show (0 + 1) * 2816 ≤ 2816; omega
    · show 4 ∣ (tab pf 0 (visit i)).toNat * 512; omega
    · show 4 ∣ 512; decide
  · rw [tile1]
    refine ⟨fun a => ?_, .inl rfl⟩
    match a with
    | ⟨0, _⟩ => show ((tab pf 0 (visit i)).toNat + 1) * 512 ≤ 32768; have := ht (visit i); omega
    | ⟨1, _⟩ => show (0 + 1) * 1 ≤ 1; omega
  · rw [tile2]
    refine ⟨fun a => ?_, .inr (.inr ⟨by decide, rfl, ?_, rfl⟩)⟩
    · match a with
      | ⟨0, _⟩ => show ((tab pf 1 (visit i)).toNat + 1) * 1 ≤ 4; have := hg (visit i); omega
      | ⟨1, _⟩ => show (0 + 1) * 2816 ≤ 2816; omega
      | ⟨2, _⟩ => show (0 + 1) * 5632 ≤ 5632; omega
    · show 0 * 2816 = 0; rfl
  · rw [tile3]
    refine ⟨fun a => ?_, .inl rfl⟩
    match a with
    | ⟨0, _⟩ => show ((tab pf 1 (visit i)).toNat + 1) * 1 ≤ 4; have := hg (visit i); omega
    | ⟨1, _⟩ => show (0 + 1) * 1 ≤ 1; omega
    | ⟨2, _⟩ => show (0 + 1) * 5632 ≤ 5632; omega
  · rw [tile4]
    refine ⟨fun a => ?_, .inr (.inl (.inr ⟨by decide, rfl, .inl ⟨?_, ?_⟩⟩))⟩
    · match a with
      | ⟨0, _⟩ => show ((tab pf 0 (visit i)).toNat + 1) * 512 ≤ 32768; have := ht (visit i); omega
      | ⟨1, _⟩ => show (0 + 1) * 5632 ≤ 5632; omega
    · show 2 ∣ (tab pf 0 (visit i)).toNat * 512; omega
    · show 2 ∣ 512; decide

/-- The output is idle at a visit where none of the three parts of the body runs. -/
theorem idle_iff (pf : pre0.Contents (Elt F)) (i : grid0.Coords) :
    idle0 pf 4 i = true ↔ ¬ k0_cond1 (tab pf 2 (visit i)) (tab pf 3 (visit i)) = 1#1
      ∧ ¬ k0_cond2 (tab pf 2 (visit i)) (tab pf 3 (visit i)) (tab pf 4 (visit i)) = 1#1 ∧ ¬ k0_cond3 (tab pf 2 (visit i)) (tab pf 3 (visit i)) = 1#1 := by
  show (!(k0_cond1 (pf.atD 0 (k0_off3 i)) (pf.atD 0 (k0_off4 i)) == 1#1) && !(k0_cond2 (pf.atD 0 (k0_off3 i)) (pf.atD 0 (k0_off4 i)) (pf.atD 0 (k0_off5 i)) == 1#1) && !(k0_cond3 (pf.atD 0 (k0_off3 i)) (pf.atD 0 (k0_off4 i)) == 1#1)) = true ↔ _
  rw [atD_lo, atD_hi, atD_first]
  simp only [Bool.and_eq_true, Bool.not_eq_true', beq_eq_false_iff_ne, ne_eq, and_assoc]

end Cert.KernelIdeal.Table

end
-- ==== Proof.Visit.lean ====
/- One visit's output block entry by entry: the rows of the visit hold the scaled product, the others what they held, or zero at a tile's first visit. -/
module

public import proofs.«01_k».proof.Proof.Body
public import Idealize.ShloMosaic.Lib.PointwiseCore

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable {F : FTy → Type} [FloatOps F]

/-- The block at row `r`, column `n` after 512 columns are put at column `512 k`. -/
theorem put_cols {α : Type} (y : S512x5632.Idx → α) (k : ℕ) (p : S512x512.Idx → α) (r : Fin 512) (n : Fin 5632) :
    VecWindow.put y ![0, 512 * k] S512x512.size p (ix2 r n)
      = if n.val / 512 = k then p (ix2 r ⟨n.val % 512, Nat.mod_lt _ (by decide)⟩) else y (ix2 r n) := by
  have hn := n.isLt
  have hr := r.isLt
  unfold VecWindow.put
  by_cases hk : n.val / 512 = k
  · have h : ∀ a, (![0, 512 * k] : Fin 2 → ℕ) a ≤ ((ix2 r n : S512x5632.Idx) a).val ∧ ((ix2 r n : S512x5632.Idx) a).val < (![0, 512 * k] : Fin 2 → ℕ) a + S512x512.size a := by
      intro a; match a with
      | ⟨0, _⟩ => show 0 ≤ r.val ∧ r.val < 0 + 512; omega
      | ⟨1, _⟩ => show 512 * k ≤ n.val ∧ n.val < 512 * k + 512; omega
    rw [if_pos hk]
    refine (dif_pos h).trans (congrArg p (funext fun a => ?_))
    match a with
    | ⟨0, _⟩ => exact Fin.ext (show r.val - 0 = r.val by omega)
    | ⟨1, _⟩ => exact Fin.ext (show n.val - 512 * k = n.val % 512 by omega)
  · have h : ¬ ∀ a, (![0, 512 * k] : Fin 2 → ℕ) a ≤ ((ix2 r n : S512x5632.Idx) a).val ∧ ((ix2 r n : S512x5632.Idx) a).val < (![0, 512 * k] : Fin 2 → ℕ) a + S512x512.size a := by
      intro h
      have h1 : 512 * k ≤ n.val ∧ n.val < 512 * k + 512 := h 1
      exact hk (by omega)
    rw [if_neg hk]
    exact dif_neg h

variable (lo hi first : Elt F .i32) (x : Vec F S512x2816 .fp8e4m3) (xs : Vec F S512x1 .f32) (w : Vec F S1x2816x5632 .fp8e4m3) (ws : Vec F S1x1x5632 .f32) (y : Vec F S512x5632 .bf16)

/-- The scaled product at row `r`, column `n`. -/
def cell (r : Fin 512) (n : Fin 5632) : F .bf16 :=
  colBlock x xs w ws (n.val / 512) (by have := n.isLt; omega) (ix2 r ⟨n.val % 512, Nat.mod_lt _ (by decide)⟩)

/-- Row `r` is one of the visit's. -/
abbrev mine (lo hi : BitVec 32) (r : Fin 512) : Prop := lo.toInt ≤ r.val ∧ (r.val : ℤ) < hi.toInt

theorem wholeUpto_at (r : Fin 512) (n : Fin 5632) : ∀ (k : ℕ) (h : k ≤ 11), wholeUpto x xs w ws y k h (ix2 r n) = if n.val < 512 * k then cell x xs w ws r n else y (ix2 r n)
  | 0, _ => by rw [if_neg (by omega)]; rfl
  | k + 1, h => by
    rw [wholeUpto, put_cols, wholeUpto_at r n k]
    by_cases hk : n.val / 512 = k
    · subst hk
      rw [if_pos rfl, if_pos (by omega)]; rfl
    · rw [if_neg hk]
      by_cases h2 : n.val < 512 * k
      · rw [if_pos h2, if_pos (by omega)]
      · rw [if_neg h2, if_neg (by omega)]

theorem row_word (r : Fin 512) : (BitVec.ofNat 32 r.val).toInt = r.val := by
  have := r.isLt
  rw [BitVec.toInt_eq_toNat_of_lt (by rw [BitVec.toNat_ofNat]; omega), BitVec.toNat_ofNat]; omega

theorem mask_at (lo hi : BitVec 32) (r : Fin 512) : (k0_pay16 (F := F) lo hi (ix2 r 0) = 1#1) ↔ mine lo hi r := by
  pointwise [k0_pay16]
  unfold mine
  rw [← row_word r]
  exact (and_bit _ _).trans (and_congr IntOp.cmpi_sge IntOp.cmpi_slt)

theorem colMasked_at (old : Vec F S512x5632 .bf16) (k : ℕ) (hk : k < 11) (r : Fin 512) (q : Fin 512) :
    colMasked lo hi x xs w ws old k hk (ix2 r q) = if k0_pay16 (F := F) lo hi (ix2 r 0) = 1#1 then colBlock x xs w ws k hk (ix2 r q) else VecWindow.window old ![0, 512 * k] S512x512.size (inb6 k hk) (ix2 r q) := by
  have e : colMasked lo hi x xs w ws old k hk = select (broadcastTo S512x512 (shapeCast S512x1 (k0_pay16 (F := F) lo hi) shapeCasts_S512x1_S512x1) broadcasts_S512x1_S512x512)
      (colBlock x xs w ws k hk) (shapeCast S512x512 (VecWindow.window old ![0, 512 * k] S512x512.size (inb6 k hk)) shapeCasts_S512x512_S512x512) := rfl
  rw [e]
  generalize colBlock x xs w ws k hk = A
  generalize VecWindow.window old ![0, 512 * k] S512x512.size (inb6 k hk) = B
  generalize k0_pay16 (F := F) lo hi = M
  pointwise
  rfl

theorem window_at (old : Vec F S512x5632 .bf16) (k : ℕ) (hk : k < 11) (r : Fin 512) (q : Fin 512) :
    VecWindow.window old ![0, 512 * k] S512x512.size (inb6 k hk) (ix2 r q) = old (ix2 r ⟨512 * k + q.val, by have := q.isLt; omega⟩) := by
  show old _ = _
  refine congrArg old (funext fun a => ?_)
  match a with
  | ⟨0, _⟩ => exact Fin.ext (show 0 + 1 * r.val = r.val by omega)
  | ⟨1, _⟩ => exact Fin.ext (show 512 * k + 1 * q.val = 512 * k + q.val by omega)

theorem maskedUpto_at (r : Fin 512) (n : Fin 5632) : ∀ (k : ℕ) (h : k ≤ 11),
    maskedUpto lo hi x xs w ws y k h (ix2 r n) = if n.val < 512 * k ∧ mine lo hi r then cell x xs w ws r n else y (ix2 r n)
  | 0, _ => by rw [if_neg (by omega)]; rfl
  | k + 1, h => by
    rw [maskedUpto, put_cols]
    by_cases hk : n.val / 512 = k
    · subst hk
      rw [if_pos rfl, colMasked_at (hk := by omega), window_at (hk := by omega)]
      by_cases hm : mine lo hi r
      · rw [if_pos ((mask_at lo hi r).mpr hm), if_pos ⟨by omega, hm⟩]; rfl
      · have hn : (⟨512 * (n.val / 512) + n.val % 512, by have := n.isLt; omega⟩ : Fin 5632) = n := Fin.ext (by show 512 * (n.val / 512) + n.val % 512 = n.val; omega)
        rw [if_neg (fun h' => hm ((mask_at lo hi r).mp h')), if_neg (fun h' => hm h'.2)]
        show maskedUpto lo hi x xs w ws y (n.val / 512) _ (ix2 r ⟨512 * (n.val / 512) + n.val % 512, _⟩) = _
        rw [hn, maskedUpto_at r n, if_neg (fun h' => hm h'.2)]
    · rw [if_neg hk, maskedUpto_at r n k]
      by_cases h2 : n.val < 512 * k ∧ mine lo hi r
      · rw [if_pos h2, if_pos ⟨by omega, h2.2⟩]
      · rw [if_neg h2, if_neg (fun h' => h2 ⟨by omega, h'.2⟩)]

/-- THE VISIT, entry by entry: the visit's rows get the scaled product; the others are zero at a tile's first visit, and as they were at a later one. -/
theorem step_at (r : Fin 512) (n : Fin 5632) :
    step lo hi first x xs w ws y (ix2 r n) = if mine lo hi r then cell x xs w ws r n else if first = 1#32 then k0_pay1 (F := F) (ix2 r n) else y (ix2 r n) := by
  have hn := n.isLt
  have hr := r.isLt
  unfold step
  by_cases h1 : lo = 0#32 ∧ hi = 512#32
  · rw [if_pos ((cond1_iff lo hi).mpr h1), wholeUpto_at, if_pos (by omega), if_pos]
    rw [h1.1, h1.2]
    exact ⟨by show (0 : ℤ) ≤ _; omega, by show (r.val : ℤ) < 512; omega⟩
  · rw [if_neg (fun h => h1 ((cond1_iff lo hi).mp h))]
    have h2 : k0_cond2 lo hi first = 1#1 ↔ first = 1#32 := (cond2_iff lo hi first).trans (and_iff_right h1)
    have h3 : k0_cond3 lo hi = 1#1 ↔ BitVec.toInt lo < BitVec.toInt hi := (cond3_iff lo hi).trans (and_iff_right h1)
    have hbase : (if k0_cond2 lo hi first = 1#1 then k0_pay1 (F := F) else y) (ix2 r n) = if first = 1#32 then k0_pay1 (F := F) (ix2 r n) else y (ix2 r n) := by
      by_cases hf : first = 1#32
      · rw [if_pos (h2.mpr hf), if_pos hf]
      · rw [if_neg (fun h => hf (h2.mp h)), if_neg hf]
    by_cases hc : k0_cond3 lo hi = 1#1
    · rw [if_pos hc, maskedUpto_at, hbase]
      by_cases hm : mine lo hi r
      · rw [if_pos ⟨by omega, hm⟩, if_pos hm]
      · rw [if_neg (fun h => hm h.2), if_neg hm]
    · rw [if_neg hc, hbase, if_neg (c := mine lo hi r)]
      intro hm
      exact hc (h3.mpr (by have := hm.1; have := hm.2; omega))

/-- A tile's first visit does not depend on what the block held. -/
theorem step_first (y' : Vec F S512x5632 .bf16) (hf : first = 1#32) : step lo hi first x xs w ws y = step lo hi first x xs w ws y' := by
  funext j
  obtain ⟨r, n, rfl⟩ : ∃ (r : Fin 512) (n : Fin 5632), j = ix2 r n := ⟨j 0, j 1, by funext a; match a with | ⟨0, _⟩ => rfl | ⟨1, _⟩ => rfl⟩
  rw [step_at _ _ _ _ _ _ _ _ r n, step_at _ _ _ _ _ _ _ _ r n, if_pos hf, if_pos hf]

/-- A visit at which nothing runs leaves the block as it was. -/
theorem step_idle (h1 : ¬ k0_cond1 lo hi = 1#1) (h2 : ¬ k0_cond2 lo hi first = 1#1) (h3 : ¬ k0_cond3 lo hi = 1#1) : step lo hi first x xs w ws y = y := by
  unfold step
  rw [if_neg h1, if_neg h3, if_neg h2]

end Cert.KernelIdeal.Body

end
-- ==== Proof.Run.lean ====
/- The pipeline over the visits: what every staging buffer holds at every visit, the body's obligation, and the launch. -/
module

public import proofs.«01_k».proof.Proof.Table
public import proofs.«01_k».proof.Proof.Visit
public import proofs.«01_k».proof.Proof.Entry

@[expose] public section

set_option maxRecDepth 16384

noncomputable section

namespace Cert.KernelIdeal.Run

open Cert.KernelIdeal Cert.KernelIdeal.Gen Cert.KernelIdeal.Body Cert.KernelIdeal.Table Cert.KernelIdeal.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The table's contents when the region is entered. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

/-- What the run asks of the table: its blocks are inside the arrays, and a visit not marked first is a later visit of the tile before it. -/
structure Good : Prop where
  ok : ok0 (F := F) (tbl m)
  later : ∀ v : Fin 67, tab (tbl m) 4 v ≠ 1#32 → ∃ h : v.val ≠ 0, tab (tbl m) 0 v = tab (tbl m) 0 ⟨v.val - 1, by omega⟩

abbrev adm (hO : Good m) : (pcfg0 (F := F)).Adm := ⟨tbl m, hO.ok⟩
abbrev cfgM (hO : Good m) : Pipeline.Cfg sig Λ₀ := cfg0 (adm m hO)

/-- The half of the table the region hands the body. -/
theorem PhiT0_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-- Window `w`'s block at visit `t`, read off its array as the region finds it. -/
def iblk (hO : Good m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

attribute [local irreducible] tbl V

/-- The staging buffers at visit `t`. -/
abbrev ms0 (hO : Good m) (t : Fin (cfgM m hO).N) : Memref sig .tc .vmem S512x2816 .fp8e4m3 := spec0_0.stage ((cfgM m hO).slots t 0)
abbrev hs0 (hO : Good m) (t : Fin (cfgM m hO).N) : (ms0 m hO t).IsWhole := hstage0_0 (((cfgM m hO).slots t 0).cast nbuf0_0)
abbrev ms1 (hO : Good m) (t : Fin (cfgM m hO).N) : Memref sig .tc .vmem S512x1 .f32 := spec0_1.stage ((cfgM m hO).slots t 1)
abbrev hs1 (hO : Good m) (t : Fin (cfgM m hO).N) : (ms1 m hO t).IsWhole := hstage0_1 (((cfgM m hO).slots t 1).cast nbuf0_1)
abbrev ms2 (hO : Good m) (t : Fin (cfgM m hO).N) : Memref sig .tc .vmem S1x2816x5632 .fp8e4m3 := spec0_2.stage ((cfgM m hO).slots t 2)
abbrev hs2 (hO : Good m) (t : Fin (cfgM m hO).N) : (ms2 m hO t).IsWhole := hstage0_2 (((cfgM m hO).slots t 2).cast nbuf0_2)
abbrev ms3 (hO : Good m) (t : Fin (cfgM m hO).N) : Memref sig .tc .vmem S1x1x5632 .f32 := spec0_3.stage ((cfgM m hO).slots t 3)
abbrev hs3 (hO : Good m) (t : Fin (cfgM m hO).N) : (ms3 m hO t).IsWhole := hstage0_3 (((cfgM m hO).slots t 3).cast nbuf0_3)
abbrev ms4 (hO : Good m) (t : Fin (cfgM m hO).N) : Memref sig .tc .vmem S512x5632 .bf16 := spec0_4.stage ((cfgM m hO).slots t 4)
abbrev hs4 (hO : Good m) (t : Fin (cfgM m hO).N) : (ms4 m hO t).IsWhole := hstage0_4 (((cfgM m hO).slots t 4).cast nbuf0_4)

/-- There are 67 visits. -/
theorem cN (hO : Good m) : (cfgM m hO).N = 67 := N_0

/-- The visit's number. -/
theorem visit_coords (t : Fin grid0.N) : (visit (grid0.coords t)).val = t.val := by
  have h : (grid0.coords t 0).val = t.val / 1 % 67 := Pipeline.Grid.coords_val t 0 (by decide) rfl
  have ht : t.val < 67 := N_0 ▸ t.isLt
  show (grid0.coords t 0).val = t.val
  omega

/-- The visit applied to what the output block held. -/
def visitStep (hO : Good m) (c : Dev nD) (t : Fin (cfgM m hO).N) (y : Vec F S512x5632 .bf16) : Vec F S512x5632 .bf16 :=
  step (tab (tbl m) 2 (visit (grid0.coords t))) (tab (tbl m) 3 (visit (grid0.coords t))) (tab (tbl m) 4 (visit (grid0.coords t)))
    (iblk m hO c 0 t) (iblk m hO c 1 t) (iblk m hO c 2 t) (iblk m hO c 3 t) y

/-- The output block after visit `n`: the visits in order, each over what the one before left. -/
def outN (hO : Good m) (c : Dev nD) : (n : ℕ) → n < (cfgM m hO).N → Vec F S512x5632 .bf16
  | 0, h => visitStep m hO c ⟨0, h⟩ (k0_pay1 (F := F))
  | n + 1, h => visitStep m hO c ⟨n + 1, h⟩ (outN hO c n (Nat.lt_of_succ_lt h))

/-- The proof data of the pipeline on core `c`. -/
def dats (hO : Good m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outN m hO c t.val t.isLt
  Φ _ := iprop(Pipeline.ΦA spec0 c ∗ Pipeline.ΦT pre0 (tbl m) c)
  q _ := fullShare
  owed _ := 0

theorem A_eq (hO : Good m) (c : Dev nD) (w : Fin (cfgM m hO).W) : (dats m hO 0 c).A w = V m c (Pipeline.arrRef spec0 w) := by
  dsimp only [dats]
theorem after0 (hO : Good m) (c : Dev nD) (t : Fin (cfgM m hO).N) : (dats m hO 0 c).after 0 t = iblk m hO c 0 t := by dsimp only [dats]; try rfl
theorem before0 (hO : Good m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem after1 (hO : Good m) (c : Dev nD) (t : Fin (cfgM m hO).N) : (dats m hO 0 c).after 1 t = iblk m hO c 1 t := by dsimp only [dats]; try rfl
theorem before1 (hO : Good m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem after2 (hO : Good m) (c : Dev nD) (t : Fin (cfgM m hO).N) : (dats m hO 0 c).after 2 t = iblk m hO c 2 t := by dsimp only [dats]; try rfl
theorem before2 (hO : Good m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem after3 (hO : Good m) (c : Dev nD) (t : Fin (cfgM m hO).N) : (dats m hO 0 c).after 3 t = iblk m hO c 3 t := by dsimp only [dats]; try rfl
theorem before3 (hO : Good m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem after4 (hO : Good m) (c : Dev nD) (t : Fin (cfgM m hO).N) : (dats m hO 0 c).after 4 t = outN m hO c t.val t.isLt := by dsimp only [dats]; try rfl

/-- The output's block index at a visit. -/
theorem index4 (hO : Good m) (t : Fin (cfgM m hO).N) : ((cfgM m hO).win 4).index t = ![(tab (tbl m) 0 (visit (grid0.coords t))).toNat, 0] := tile4 (tbl m) (grid0.coords t)

/-- A visit not marked first is not the first one, and the one before is on the same tile. -/
theorem same_tile (hO : Good m) (t u : Fin (cfgM m hO).N) (ht : t.val = u.val + 1) (h : tab (tbl m) 4 (visit (grid0.coords t)) ≠ 1#32) :
    tab (tbl m) 0 (visit (grid0.coords t)) = tab (tbl m) 0 (visit (grid0.coords u)) := by
  obtain ⟨h0, h1⟩ := hO.later _ h
  refine h1.trans (congrArg (tab (tbl m) 0) (Fin.ext ?_))
  have et := visit_coords t
  have eu := visit_coords u
  show (visit (grid0.coords t)).val - 1 = (visit (grid0.coords u)).val
  omega

/-- The visit before one not marked first is on the same tile, so the output block is not written back between them. -/
theorem no_flush (hO : Good m) (t u : Fin (cfgM m hO).N) (ht : t.val = u.val + 1) (h : tab (tbl m) 4 (visit (grid0.coords t)) ≠ 1#32) :
    ((cfgM m hO).win 4).flush u = false := by
  have hidx : ((cfgM m hO).win 4).index t = ((cfgM m hO).win 4).index u := by
    rw [index4, index4, same_tile m hO t u ht h]
  refine Bool.eq_false_iff.mpr fun hf => ?_
  rcases (((cfgM m hO).win 4).flush_out rfl u).mp hf with h1 | ⟨h1, h2⟩
  · exact absurd t.isLt (by rw [ht, h1]; exact Nat.lt_irrefl _)
  · exact h2 ((congrArg ((cfgM m hO).win 4).index (Fin.ext ht.symm : (⟨u.val + 1, h1⟩ : Fin (cfgM m hO).N) = t)).trans hidx)

/-- An idle visit changes nothing. -/
theorem step_of_idle (hO : Good m) (c : Dev nD) (t : Fin (cfgM m hO).N) (h : (cfgM m hO).idle 4 (grid0.coords t) = true) (y) :
    visitStep m hO c t y = y ∧ tab (tbl m) 4 (visit (grid0.coords t)) ≠ 1#32 := by
  obtain ⟨h1, h2, h3⟩ := (idle_iff (tbl m) (grid0.coords t)).mp h
  exact ⟨step_idle _ _ _ _ _ _ _ _ h1 h2 h3, fun hf => h2 ((cond2_iff _ _ _).mpr ⟨fun hw => h1 ((cond1_iff _ _).mpr hw), hf⟩)⟩

/-- A visit not marked first finds in the output's buffer what the visit before left. -/
theorem before4 (hO : Good m) (c : Dev nD) : ∀ (n : ℕ) (t : Fin (cfgM m hO).N) (ht : t.val = n + 1) (_ : tab (tbl m) 4 (visit (grid0.coords t)) ≠ 1#32) (d),
    (dats m hO 0 c).before 4 t d = outN m hO c n (by have := t.isLt; omega) := by
  intro n
  induction n using Nat.strong_induction_on with
  | _ n ih =>
    intro t ht hf d
    have hn : n < (cfgM m hO).N := by have := t.isLt; omega
    have hpos : t.val ≠ 0 := by omega
    have e1 : (⟨t.val - 1, Nat.lt_of_le_of_lt (Nat.sub_le _ _) t.isLt⟩ : Fin (cfgM m hO).N) = ⟨n, hn⟩ := Fin.ext (by show t.val - 1 = n; omega)
    rw [(dats m hO 0 c).before_of_pos 4 t hpos (((cfgM m hO).win 4).fetch_out rfl _) d, e1, no_flush m hO t ⟨n, hn⟩ ht hf, if_neg Bool.false_ne_true]
    unfold Dat.left
    cases hi : (cfgM m hO).idle 4 ((cfgM m hO).grid.coords ⟨n, hn⟩)
    · show (dats m hO 0 c).after 4 ⟨n, hn⟩ = _
      rw [after4]
    · show (dats m hO 0 c).before 4 ⟨n, hn⟩ d = _
      obtain ⟨_, hf'⟩ := step_of_idle m hO c ⟨n, hn⟩ hi (k0_pay1 (F := F))
      obtain ⟨h0, -⟩ := hO.later _ hf'
      have hv : (visit (grid0.coords (⟨n, hn⟩ : Fin grid0.N))).val = n := visit_coords _
      obtain ⟨k, rfl⟩ : ∃ k, n = k + 1 := ⟨n - 1, by omega⟩
      rw [ih k (by omega) ⟨k + 1, hn⟩ rfl hf' d]
      exact (step_of_idle m hO c ⟨k + 1, hn⟩ hi _).1.symm

/-- The visit over what it finds is the block after it. -/
theorem visit_before (hO : Good m) (c : Dev nD) (t : Fin (cfgM m hO).N) (d) :
    visitStep m hO c t ((dats m hO 0 c).before 4 t d) = outN m hO c t.val t.isLt := by
  by_cases hf : tab (tbl m) 4 (visit (grid0.coords t)) = 1#32
  · obtain ⟨n, hn⟩ := t
    match n with
    | 0 => exact step_first _ _ _ _ _ _ _ _ _ hf
    | k + 1 => exact step_first _ _ _ _ _ _ _ _ _ hf
  · obtain ⟨h0, -⟩ := hO.later _ hf
    rw [visit_coords] at h0
    obtain ⟨n, hn⟩ := t
    match n, hn, hf, h0 with
    | k + 1, hn, hf, _ => rw [before4 m hO c k ⟨k + 1, hn⟩ rfl hf]; rfl

/-- Idle visits find the block they leave. -/
theorem before_idle (hO : Good m) (c : Dev nD) (t : Fin (cfgM m hO).N) (h : (cfgM m hO).idle 4 (grid0.coords t) = true) (d) :
    (dats m hO 0 c).before 4 t d = outN m hO c t.val t.isLt := by
  exact (step_of_idle m hO c t h _).1.symm.trans (visit_before m hO c t d)

/-- The body at visit `t`, on the buffers of its slots. -/
abbrev bodyAt (hO : Good m) (t : Fin (cfgM m hO).N) : Prog (TpuEff nD τ sig (Elt F) Λ₀ .tc) PUnit :=
  cc0__grouped_matmul_kernel (grid0.coords t) (Memref.whole main_v88) (Memref.isWhole_whole _) (ms0 m hO t) (hs0 m hO t) (ms1 m hO t) (hs1 m hO t)
    (ms2 m hO t) (hs2 m hO t) (ms3 m hO t) (hs3 m hO t) (ms4 m hO t) (hs4 m hO t)

/-- The words of visit `t` as the body loads them are the table's. -/
theorem step_words (hO : Good m) (c : Dev nD) (t : Fin (cfgM m hO).N) (y) :
    step (word c (tbl m 0) (k0_off3 (grid0.coords t)) (k0_off3_inb (grid0.coords t))) (word c (tbl m 0) (k0_off4 (grid0.coords t)) (k0_off4_inb (grid0.coords t)))
      (word c (tbl m 0) (k0_off5 (grid0.coords t)) (k0_off5_inb (grid0.coords t))) (iblk m hO c 0 t) (iblk m hO c 1 t) (iblk m hO c 2 t) (iblk m hO c 3 t) y
      = visitStep m hO c t y := by
  rw [word_lo, word_hi, word_first]; rfl

/-- What the body is called with at visit `t`, -/
def bodyPre (hO : Good m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))

/-- and what it returns. -/
def bodyPost (hO : Good m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare (outN m hO c t.val t.isLt))

/-- The body at any visit. -/
theorem sound_body (hO : Good m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2, before3]
  rw [show (dats m hO 0 c).Φ t.succ = (dats m hO 0 c).Φ t.castSucc from rfl, after0, after1, after2, after3]
  rw [show (dats m hO 0 c).Φ t.castSucc = iprop(Pipeline.ΦA spec0 c ∗ Pipeline.ΦT pre0 (tbl m) c) from rfl, PhiT0_eq]
  unfold Dat.owesAt Pipeline.owesWithin
  rw [show (dats m hO 0 c).owed t.castSucc = 0 from rfl, show (dats m hO 0 c).owed t.succ = 0 from rfl]
  iintro ⟨⟨HA, HT⟩, ⟨%W, -, HW⟩, ⟨%d0, H0⟩, ⟨%d1, H1⟩, ⟨%d2, H2⟩, ⟨%d3, H3⟩, ⟨%d4, H4⟩⟩
  rw [← visit_before m hO c t d4]
  iapply (body_step c (grid0.coords t) (ms0 m hO t) (hs0 m hO t) (ms1 m hO t) (hs1 m hO t) (ms2 m hO t) (hs2 m hO t) (ms3 m hO t) (hs3 m hO t) (ms4 m hO t) (hs4 m hO t)
    (tbl m 0) (iblk m hO c 0 t) (iblk m hO c 1 t) (iblk m hO c 2 t) (iblk m hO c 3 t) ((dats m hO 0 c).before 4 t d4) Set.univ _)
  isplitl [H0]; · iexact H0
  isplitl [H1]; · iexact H1
  isplitl [H2]; · iexact H2
  isplitl [H3]; · iexact H3
  isplitl [H4]; · iexact H4
  isplitl [HT]; · iexact HT
  iintro ⟨H0, H1, H2, H3, H4, HT⟩
  isplitl [HA HT]
  · isplitl [HA]; · iexact HA
    iexact HT
  isplitl [HW]
  · iexists W; isplitr; · ipureintro; exact fun _ _ => Or.inl trivial
    iexact HW
  isplitl [H0]; · iexact H0
  isplitl [H1]; · iexact H1
  isplitl [H2]; · iexact H2
  isplitl [H3]; · iexact H3
  iapply (Entails.of_eq (congrArg (owns (c : Thread nD τ) (ms4 m hO t) fullShare) (step_words m hO c t ((dats m hO 0 c).before 4 t d4))))
  iexact H4

/-- The body table's row at visit `t`'s slots. -/
theorem defs₀_row (hO : Good m) (t : Fin (cfgM m hO).N) :
    defs₀ (F := F) .tc (cfgM m hO).body ((cfgM m hO).bodyArgs t ((cfgM m hO).slots t)) = bodyAt m hO t := by
  unfold defs₀; rw [Defs.onTc_tc]

/-- The output's buffer at the block after the visit is what the schedule asks, whether the visit is idle or not. -/
theorem leaves4 (hO : Good m) (c : Dev nD) (t : Fin (cfgM m hO).N) :
    (owns (c : Thread nD τ) (ms4 m hO t) fullShare (outN m hO c t.val t.isLt) : sProp 𝕄) ⊢ (dats m hO 0 c).leavesExact 4 t := by
  unfold Dat.leavesExact
  cases hi : (cfgM m hO).idle 4 ((cfgM m hO).grid.coords t)
  · exact Entails.of_eq (congrArg (owns (c : Thread nD τ) (ms4 m hO t) fullShare) (after4 m hO c t).symm)
  · cases hf : ((cfgM m hO).win 4).flush t
    · iintro H; iexists (k0_pay1 (F := F))
      iapply (Entails.of_eq (congrArg (owns (c : Thread nD τ) (ms4 m hO t) fullShare) (before_idle m hO c t hi (k0_pay1 (F := F))).symm))
      iexact H
    · exact Entails.of_eq (congrArg (owns (c : Thread nD τ) (ms4 m hO t) fullShare) (after4 m hO c t).symm)

/-- The body's obligation at every visit. -/
theorem body_obligation (hO : Good m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  unfold bodyPost
  iintro ⟨HA, HW, H0, H1, H2, H3, H4⟩
  isplitl [HA]; · iexact HA
  isplitl [HW]; · iexact HW
  isplitl [H0]; · iexact H0
  isplitl [H1]; · iexact H1
  isplitl [H2]; · iexact H2
  isplitl [H3]; · iexact H3
  iapply (leaves4 m hO c t); iexact H4

-- the launch rule's implicit arguments are found by unifying its conclusion with this one
set_option backward.isDefEq.respectTransparency.types false in
/-- The run: the output array at its last contents, every other buffer as the region found it, every counter at zero. -/
theorem run_main_quiescent (hO : Good m) : θ_run defs (onTc (τ := τ) (main (F := F))) (s₀ m ρ)
    (fun r => Pipeline.FramePost (Pipeline.pin pcfgs fun _ => adm m hO) (dats m hO) (0 : Fin 1) (V m) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

end Cert.KernelIdeal.Run

end
-- ==== Proof.Frame.lean ====
/- The run of the whole program under `Good`: every argument ends as it began, every counter at zero, the result at what the visits wrote. -/
module

public import proofs.«01_k».proof.Proof.Run

@[expose] public section

set_option maxRecDepth 16384

noncomputable section

namespace Cert.KernelIdeal.Run

open Cert.KernelIdeal Cert.KernelIdeal.Gen Cert.KernelIdeal.Body Cert.KernelIdeal.Table Cert.KernelIdeal.Entry
open Idealize.ShloMosaic Idealize.ShloMosaic.TcCoe Idealize.ShloMosaic.Tactic
open Idealize.SL Idealize.SL.RA Idealize.SL.BI Idealize.SL.Sem
open Idealize.ShloMosaic.Pipeline (Dat Cfg Window)

variable {F : FTy → Type} [FloatOps F]
variable (m : (ℓ : Loc nD τ sig) → Buf (Elt F) ℓ) (ρ : Dev nD → PrngReg)

attribute [local irreducible] tbl V

/-- The result at the end: the output array after every visit's write-back. -/
def result (hO : Good m) (c : Dev nD) : Buf (Elt F) ((c.tc : Thread nD τ).loc main_v90) := (dats m hO 0 c).arrAt 4 (cfgM m hO).N

/-- What a run's final state shows, out of the launch's postcondition. -/
theorem of_post (hO : Good m) (r : PUnit × MemSt nD τ sig (Elt F))
    (h : Pipeline.FramePost (Pipeline.pin pcfgs fun _ => adm m hO) (dats m hO) (0 : Fin 1) (V m) r) (c : Dev nD) :
    r.2.mem ((c.tc : Thread nD τ).loc main_v90) = result m hO c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(h c).1 4,
   (((h c).1 0).trans ((dats m hO 0 c).arrAt_in 0 rfl _)).trans ((A_eq m hO c 0).trans (V_arg0 m c)),
   (((h c).1 1).trans ((dats m hO 0 c).arrAt_in 1 rfl _)).trans ((A_eq m hO c 1).trans (V_arg1 m c)),
   (((h c).1 2).trans ((dats m hO 0 c).arrAt_in 2 rfl _)).trans ((A_eq m hO c 2).trans (V_arg2 m c)),
   ((h c).2 main_arg3 (by decide : main_arg3 ∈ Pipeline.restRefs sig spec0)).trans (V_arg3 m c),
   ((h c).2 main_arg4 (by decide : main_arg4 ∈ Pipeline.restRefs sig spec0)).trans (V_arg4 m c)⟩

/-- The frame. -/
theorem frame_of (hO : Good m) : θ_run defs (onTc (τ := τ) (main (F := F))) (s₀ m ρ) (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) ∧ r.2.sem = fun _ => 0) :=
  (θ_run defs _ _).mono (fun r h => ⟨fun c => (of_post m hO r h.1 c).2, h.2⟩) (run_main_quiescent m ρ hO)

/-- The value: the result named. -/
theorem value_of (hO : Good m) : θ_run defs (onTc (τ := τ) (main (F := F))) (s₀ m ρ) (fun r => ∀ c : Dev nD,
    r.2.mem ((c.tc : Thread nD τ).loc main_v90) = result m hO c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun r h c => of_post m hO r h.1 c) (run_main_quiescent m ρ hO)

end Cert.KernelIdeal.Run

end
-- ==== Proof.Good.lean ====
/- The table the kernel reads, as numbers, and that it is a good one. -/
module

public import proofs.«01_k».proof.Proof.Sizes
public import proofs.«01_k».proof.Proof.Frame

@[expose] public section

set_option maxRecDepth 16384

noncomputable section

namespace Cert.KernelIdeal.Run

open Cert.KernelIdeal Cert.KernelIdeal.Gen Cert.KernelIdeal.Body Cert.KernelIdeal.Table Cert.KernelIdeal.Entry
open Idealize.ShloMosaic Idealize.ShloMosaic.TcCoe Idealize.ShloMosaic.ValueIdx
open Idealize.SL Idealize.SL.Sem
open Cert.KernelIdeal.Rows (Holds)

theorem stack_piece (a b c d e : IVec S1x67 32) (v : Fin 67) (k : ℕ) (hk : k < 5) (y : IVec S1x67 32)
    (hy : ([⟨S1x67, a⟩, ⟨S1x67, b⟩, ⟨S1x67, c⟩, ⟨S1x67, d⟩, ⟨S1x67, e⟩] : List ((s : Shape) × (s.Idx → BitVec 32)))[k]'hk = ⟨S1x67, y⟩) :
    Rows.stack a b c d e (at5 ⟨k, hk⟩ v) = y (ValueIdx.ix2 (0 : Fin 1) v) := by
  unfold Rows.stack
  refine concatenate_apply_piece (t := S5x67) 0 [⟨S1x67, a⟩, ⟨S1x67, b⟩, ⟨S1x67, c⟩, ⟨S1x67, d⟩, ⟨S1x67, e⟩] concatenates_S1x67_S1x67_S1x67_S1x67_S1x67_S5x67_d0 (at5 ⟨k, hk⟩ v) k hk S1x67 y hy rfl k ?_ (ValueIdx.ix2 (0 : Fin 1) v) ?_ ?_
  · interval_cases k <;> rfl
  · intro b hb
    match b with
    | ⟨0, _⟩ => exact absurd rfl hb
    | ⟨1, _⟩ => rfl
  · rfl

theorem asRow_at (y : IVec S67 32) (v : Fin 67) : Rows.asRow y (ValueIdx.ix2 (0 : Fin 1) v) = y (ValueIdx.ix1 v) :=
  broadcastInDim_apply _ bcast_S67_S1x67_1 y _ (ValueIdx.ix1 v) fun a => by match a with | ⟨0, _⟩ => rfl

variable {F : FTy → Type} [FloatOps F]
variable (m : (ℓ : Loc nD τ sig) → Buf (Elt F) ℓ)

/-- The sizes the program is given. -/
def sz : IVec S4 32 := m (((0 : Dev nD).tc : Thread nD τ).loc main_arg4)
def ns : ℕ → ℕ := Sizes.nat (sz m)

theorem tbl_eq : tbl m 0 = Rows.table (sz m) := Rows.at14_v88 (fun b => m ((0 : Dev nD), b))

theorem tab_tile (v : Fin 67) : tab (tbl m) 0 v = Rows.tile (sz m) (ValueIdx.ix1 v) :=
  (congrFun (tbl_eq m) _).trans ((stack_piece _ _ _ _ _ v 0 (by omega) _ rfl).trans (asRow_at _ v))
theorem tab_expert (v : Fin 67) : tab (tbl m) 1 v = Rows.expert (sz m) (ValueIdx.ix1 v) :=
  (congrFun (tbl_eq m) _).trans ((stack_piece _ _ _ _ _ v 1 (by omega) _ rfl).trans (asRow_at _ v))
theorem tab_lo (v : Fin 67) : tab (tbl m) 2 v = Rows.lo (sz m) (ValueIdx.ix1 v) :=
  (congrFun (tbl_eq m) _).trans ((stack_piece _ _ _ _ _ v 2 (by omega) _ rfl).trans (asRow_at _ v))
theorem tab_hi (v : Fin 67) : tab (tbl m) 3 v = Rows.hi (sz m) (ValueIdx.ix1 v) :=
  (congrFun (tbl_eq m) _).trans ((stack_piece _ _ _ _ _ v 3 (by omega) _ rfl).trans (asRow_at _ v))
theorem tab_first (v : Fin 67) : tab (tbl m) 4 v = Rows.first (sz m) (ValueIdx.ix1 v) :=
  (congrFun (tbl_eq m) _).trans ((stack_piece _ _ _ _ _ v 4 (by omega) _ rfl).trans (asRow_at _ v))

attribute [local irreducible] tbl V Rows.tile Rows.expert Rows.lo Rows.hi Rows.first

section
variable (hs : Count.sumTo (ns m) 3 = 32768)
include hs

theorem nat_tile (v : Fin 67) : tab (tbl m) 0 v = BitVec.ofNat 32 (Count.tile (ns m) v.val) := (tab_tile m v).trans (Rows.tile_at (Sizes.nat_holds (sz m)) hs v)
theorem nat_expert (v : Fin 67) : tab (tbl m) 1 v = BitVec.ofNat 32 (Count.expert (ns m) v.val) := (tab_expert m v).trans (Rows.expert_at (Sizes.nat_holds (sz m)) hs v)
theorem nat_lo (v : Fin 67) : tab (tbl m) 2 v = BitVec.ofNat 32 (Count.lo (ns m) v.val) := (tab_lo m v).trans (Rows.lo_at (Sizes.nat_holds (sz m)) hs v)
theorem nat_hi (v : Fin 67) : tab (tbl m) 3 v = BitVec.ofNat 32 (Count.hi (ns m) v.val) := (tab_hi m v).trans (Rows.hi_at (Sizes.nat_holds (sz m)) hs v)
theorem nat_first (v : ℕ) (h : v + 1 < 67) : tab (tbl m) 4 ⟨v + 1, h⟩ = BitVec.ofNat 32 (if Count.tile (ns m) (v + 1) ≠ Count.tile (ns m) v then 1 else 0) :=
  (tab_first m _).trans (Rows.first_succ (Sizes.nat_holds (sz m)) hs v h)
theorem nat_first0 : tab (tbl m) 4 (0 : Fin 67) = 1#32 := (tab_first m _).trans (Rows.first_zero (Sizes.nat_holds (sz m)) hs)

theorem toNat_tile (v : Fin 67) : (tab (tbl m) 0 v).toNat = Count.tile (ns m) v.val := by
  have := Count.tile_lt hs v.val
  rw [nat_tile m hs, BitVec.toNat_ofNat]; omega
theorem toNat_expert (v : Fin 67) : (tab (tbl m) 1 v).toNat = Count.expert (ns m) v.val := by
  have := Count.expert_lt hs v.val
  rw [nat_expert m hs, BitVec.toNat_ofNat]; omega

/-- The table is a good one. -/
theorem good : Good m where
  ok := ok_of _ (fun v => by rw [toNat_tile m hs]; exact Count.tile_lt hs _) (fun v => by rw [toNat_expert m hs]; exact Count.expert_lt hs _)
  later v hv := by
    obtain ⟨v, hlt⟩ := v
    cases v with
    | zero => exact absurd (nat_first0 m hs) hv
    | succ v =>
      refine ⟨Nat.succ_ne_zero v, ?_⟩
      have e : Count.tile (ns m) (v + 1) = Count.tile (ns m) v := by
        by_contra hne
        rw [nat_first m hs v hlt, if_pos hne] at hv
        exact hv rfl
      rw [nat_tile m hs, nat_tile m hs]
      show BitVec.ofNat 32 (Count.tile (ns m) (v + 1)) = BitVec.ofNat 32 (Count.tile (ns m) v)
      rw [e]
end

end Cert.KernelIdeal.Run

end
-- ==== Proof.Frames.lean ====
/- The kernel's frame, at every reading of its floats: under the precondition it runs, its arguments end as they began, and every counter is zero. -/
module

public import proofs.«01_k».proof.Defs
public import proofs.«01_k».proof.Proof.Good
public import proofs.«01_k».proof.Proof.Gen.Kernel.Launch
public import Idealize.ShloMosaic.Lib.Tactic

@[expose] public section

set_option maxRecDepth 65536

noncomputable section

namespace Cert.KernelIdeal.Frames

open Cert.KernelIdeal Cert.KernelIdeal.Gen Cert.KernelIdeal.Run
open Idealize.ShloMosaic Idealize.SL.Sem

/-- The frame's statement at any floats. -/
def Framed (F : FTy → Type) [FloatOps F] [Cert.KernelIdeal.Facts] [Cert.Pre_sizes_ok.Facts] : Prop :=
  ∀ (m : (ℓ : Loc nD τ sig) → Buf (Elt F) ℓ) (g : Dev nD → PrngReg),
    (∀ c : Dev nD, Cert.Pre_sizes_ok.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = fun _ => 1#1) →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

attribute [local instance] Cert.Kernel.Gen.facts Cert.KernelIdeal.Gen.facts Cert.Pre_sizes_ok.Gen.facts

/-- The precondition gives the sizes' sum. -/
theorem sum_of (F : FTy → Type) [FloatOps F] (m : (ℓ : Loc nD τ sig) → Buf (Elt F) ℓ)
    (h : ∀ c : Dev nD, Cert.Pre_sizes_ok.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = fun _ => 1#1) : Count.sumTo (ns m) 3 = 32768 :=
  Sizes.nat_sum _ _ _ _ _ (h 0)

theorem framed (F : FTy → Type) [FloatOps F] : Framed F := fun m g h => frame_of m g (good m (sum_of F m h))

/-- The program as written and the program read at exact numbers are one program. -/
theorem kernel_eq : Cert.quiescent_Kernel = Framed Bits := by sl_kernel_rfl

theorem kernel : Cert.quiescent_Kernel := kernel_eq ▸ framed Bits

theorem kernelIdeal : Cert.quiescent_KernelIdeal := framed Ideal

end Cert.KernelIdeal.Frames

end
-- ==== Proof.Product.lean ====
/- One entry of the kernel's scaled product, over the extended reals: the row of activations times the column of the expert's weights, times the row's scale, times the column's scale. -/
module

public import proofs.«01_k».proof.Proof.Visit
public import Idealize.ShloMosaic.Lib.Pointwise

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable (x : Vec Ideal S512x2816 .fp8e4m3) (xs : Vec Ideal S512x1 .f32) (w : Vec Ideal S1x2816x5632 .fp8e4m3) (ws : Vec Ideal S1x1x5632 .f32)

/-- The kernel's product block at an entry, before the blocks it is given are named. -/
theorem pay3_at (v22 : Vec Ideal S1x2816x512 .fp8e4m3) (v28 : Vec Ideal S1x1x512 .f32) (r : Fin 512) (q : Fin 512) :
    k0_pay3 x v22 xs v28 (ix2 r q) = (∑ k : Fin 2816, x (ix2 r k) * v22 (ix3 0 k q)) * xs (ix2 r 0) * v28 (ix3 0 0 q) := by
  pointwise [k0_pay3]

/-- The weights of a column block. -/
theorem window_w (n : Fin 5632) (k : Fin 2816) :
    VecWindow.window w ![0, 0, 512 * (n.val / 512)] S1x2816x512.size (inb4 _ (by have := n.isLt; omega)) (ix3 0 k ⟨n.val % 512, Nat.mod_lt _ (by decide)⟩) = w (ix3 0 k n) := by
  show w _ = _
  refine congrArg w (funext fun a => ?_)
  match a with
  | ⟨0, _⟩ => rfl
  | ⟨1, _⟩ => exact Fin.ext (show 0 + 1 * k.val = k.val by omega)
  | ⟨2, _⟩ => exact Fin.ext (show 512 * (n.val / 512) + 1 * (n.val % 512) = n.val by omega)

/-- The column scales of a column block. -/
theorem window_ws (n : Fin 5632) :
    VecWindow.window ws ![0, 0, 512 * (n.val / 512)] S1x1x512.size (inb5 _ (by have := n.isLt; omega)) (ix3 0 0 ⟨n.val % 512, Nat.mod_lt _ (by decide)⟩) = ws (ix3 0 0 n) := by
  show ws _ = _
  refine congrArg ws (funext fun a => ?_)
  match a with
  | ⟨0, _⟩ => rfl
  | ⟨1, _⟩ => rfl
  | ⟨2, _⟩ => exact Fin.ext (show 512 * (n.val / 512) + 1 * (n.val % 512) = n.val by omega)

/-- A visit's product at row `r`, column `n`. -/
theorem cell_at (r : Fin 512) (n : Fin 5632) :
    cell x xs w ws r n = (∑ k : Fin 2816, x (ix2 r k) * w (ix3 0 k n)) * xs (ix2 r 0) * ws (ix3 0 0 n) := by
  unfold cell colBlock
  rw [pay3_at, window_ws]
  exact congrArg (fun s => s * xs (ix2 r 0) * ws (ix3 0 0 n)) (Finset.sum_congr rfl fun k _ => congrArg (x (ix2 r k) * ·) (window_w w n k))

end Cert.KernelIdeal.Body

end
-- ==== Proof.Blocks.lean ====
/- What a visit is given: the tile's rows of the activations and of their scales, and the expert's weights and column scales. -/
module

public import proofs.«01_k».proof.Proof.Good

@[expose] public section

set_option maxRecDepth 16384

noncomputable section

namespace Cert.KernelIdeal.Run

open Cert.KernelIdeal Cert.KernelIdeal.Gen Cert.KernelIdeal.Body Cert.KernelIdeal.Entry Cert.KernelIdeal.Table
open Idealize.ShloMosaic Idealize.ShloMosaic.TcCoe Idealize.ShloMosaic.Tactic

variable {F : FTy → Type} [FloatOps F]
variable (m : (ℓ : Loc nD τ sig) → Buf (Elt F) ℓ)

/-- The column scales as the region finds them: the argument with an axis put in. -/
theorem V_v89 (c : Dev nD) : V m c main_v89 = shapeCast S4x1x5632 (m ((c : Thread nD τ).loc main_arg3) : Vec F S4x5632 .f32) shapeCasts_S4x5632_S4x1x5632 := Rows.at14_v89 (fun b => m (c, b))

attribute [local irreducible] tbl V

/-- A tile's row in the array, and a visit's expert. -/
def rowOf (hs : Count.sumTo (ns m) 3 = 32768) (v : ℕ) (r : Fin 512) : Fin 32768 :=
  ⟨Count.tile (ns m) v * 512 + r.val, by have := Count.tile_lt hs v; have := r.isLt; omega⟩
def expertAt (hs : Count.sumTo (ns m) 3 = 32768) (v : ℕ) : Fin 4 := ⟨Count.expert (ns m) v, Count.expert_lt hs v⟩

variable (hO : Good m) (hs : Count.sumTo (ns m) 3 = 32768) (c : Dev nD) (t : Fin (cfgM m hO).N)
include hs

/-- The blocks' indices. -/
theorem tile_word : (tab (tbl m) 0 (visit (grid0.coords t))).toNat = Count.tile (ns m) t.val := (toNat_tile m hs _).trans (congrArg _ (visit_coords t))
theorem expert_word : (tab (tbl m) 1 (visit (grid0.coords t))).toNat = Count.expert (ns m) t.val := (toNat_expert m hs _).trans (congrArg _ (visit_coords t))
theorem idx0 : ((cfgM m hO).win 0).index t = ![Count.tile (ns m) t.val, 0] := (tile0 (tbl m) (grid0.coords t)).trans (by rw [tile_word m hO hs t])
theorem idx1 : ((cfgM m hO).win 1).index t = ![Count.tile (ns m) t.val, 0] := (tile1 (tbl m) (grid0.coords t)).trans (by rw [tile_word m hO hs t])
theorem idx2 : ((cfgM m hO).win 2).index t = ![Count.expert (ns m) t.val, 0, 0] := (tile2 (tbl m) (grid0.coords t)).trans (by rw [expert_word m hO hs t])
theorem idx3 : ((cfgM m hO).win 3).index t = ![Count.expert (ns m) t.val, 0, 0] := (tile3 (tbl m) (grid0.coords t)).trans (by rw [expert_word m hO hs t])
theorem idx4 : ((cfgM m hO).win 4).index t = ![Count.tile (ns m) t.val, 0] := (tile4 (tbl m) (grid0.coords t)).trans (by rw [tile_word m hO hs t])

theorem in_x (r : Fin 512) (k : Fin 2816) : (iblk m hO c 0 t : Vec F S512x2816 .fp8e4m3) (ix2 r k) = (m ((c : Thread nD τ).loc main_arg0) : Vec F S32768x2816 .fp8e4m3) (ix2 (rowOf m hs t.val r) k) := by
  rw [← V_arg0 m c]
  refine congrArg (V m c main_arg0) (funext fun a => Fin.ext ?_)
  match a with
  | ⟨0, _⟩ =>
    show cc0_transform_0 k0_off1_inb numel1_S1x1 (tbl m) (grid0.coords t) 0 * 512 + 1 * r.val = Count.tile (ns m) t.val * 512 + r.val
    rw [tile0, tile_word m hO hs t]; show Count.tile (ns m) t.val * 512 + 1 * r.val = _; omega
  | ⟨1, _⟩ =>
    show cc0_transform_0 k0_off1_inb numel1_S1x1 (tbl m) (grid0.coords t) 1 * 2816 + 1 * k.val = k.val
    rw [tile0, tile_word m hO hs t]; show 0 * 2816 + 1 * k.val = _; omega

theorem in_xs (r : Fin 512) : (iblk m hO c 1 t : Vec F S512x1 .f32) (ix2 r 0) = (m ((c : Thread nD τ).loc main_arg1) : Vec F S32768x1 .f32) (ix2 (rowOf m hs t.val r) 0) := by
  rw [← V_arg1 m c]
  refine congrArg (V m c main_arg1) (funext fun a => Fin.ext ?_)
  match a with
  | ⟨0, _⟩ =>
    show cc0_transform_1 k0_off1_inb numel1_S1x1 (tbl m) (grid0.coords t) 0 * 512 + 1 * r.val = Count.tile (ns m) t.val * 512 + r.val
    rw [tile1, tile_word m hO hs t]; show Count.tile (ns m) t.val * 512 + 1 * r.val = _; omega
  | ⟨1, _⟩ =>
    show cc0_transform_1 k0_off1_inb numel1_S1x1 (tbl m) (grid0.coords t) 1 * 1 + 1 * 0 = 0
    rw [tile1, tile_word m hO hs t]; rfl

theorem in_w (k : Fin 2816) (n : Fin 5632) : (iblk m hO c 2 t : Vec F S1x2816x5632 .fp8e4m3) (ix3 0 k n) = (m ((c : Thread nD τ).loc main_arg2) : Vec F S4x2816x5632 .fp8e4m3) (ix3 (expertAt m hs t.val) k n) := by
  rw [← V_arg2 m c]
  refine congrArg (V m c main_arg2) (funext fun a => Fin.ext ?_)
  match a with
  | ⟨0, _⟩ =>
    show cc0_transform_2 k0_off2_inb numel1_S1x1 (tbl m) (grid0.coords t) 0 * 1 + 1 * 0 = Count.expert (ns m) t.val
    rw [tile2, expert_word m hO hs t]; show Count.expert (ns m) t.val * 1 + 1 * 0 = _; omega
  | ⟨1, _⟩ =>
    show cc0_transform_2 k0_off2_inb numel1_S1x1 (tbl m) (grid0.coords t) 1 * 2816 + 1 * k.val = k.val
    rw [tile2, expert_word m hO hs t]; show 0 * 2816 + 1 * k.val = _; omega
  | ⟨2, _⟩ =>
    show cc0_transform_2 k0_off2_inb numel1_S1x1 (tbl m) (grid0.coords t) 2 * 5632 + 1 * n.val = n.val
    rw [tile2, expert_word m hO hs t]; show 0 * 5632 + 1 * n.val = _; omega

theorem in_ws (n : Fin 5632) : (iblk m hO c 3 t : Vec F S1x1x5632 .f32) (ix3 0 0 n) = (m ((c : Thread nD τ).loc main_arg3) : Vec F S4x5632 .f32) (ix2 (expertAt m hs t.val) n) := by
  have h : (V m c main_v89 : Vec F S4x1x5632 .f32) (ix3 (expertAt m hs t.val) 0 n) = (m ((c : Thread nD τ).loc main_arg3) : Vec F S4x5632 .f32) (ix2 (expertAt m hs t.val) n) := by
    rw [V_v89]
    refine shapeCast_apply _ shapeCasts_S4x5632_S4x1x5632 _ _ ?_
    rw [Shape.rowMajor_val_two, Shape.rowMajor_val_three]
    show (Count.expert (ns m) t.val) * 5632 + n.val = ((Count.expert (ns m) t.val) * 1 + 0) * 5632 + n.val
    omega
  refine Eq.trans (congrArg (V m c main_v89) (funext fun a => Fin.ext ?_)) h
  match a with
  | ⟨0, _⟩ =>
    show cc0_transform_3 k0_off2_inb numel1_S1x1 (tbl m) (grid0.coords t) 0 * 1 + 1 * 0 = Count.expert (ns m) t.val
    rw [tile3, expert_word m hO hs t]; show Count.expert (ns m) t.val * 1 + 1 * 0 = _; omega
  | ⟨1, _⟩ =>
    show cc0_transform_3 k0_off2_inb numel1_S1x1 (tbl m) (grid0.coords t) 1 * 1 + 1 * 0 = 0
    rw [tile3, expert_word m hO hs t]; rfl
  | ⟨2, _⟩ =>
    show cc0_transform_3 k0_off2_inb numel1_S1x1 (tbl m) (grid0.coords t) 2 * 5632 + 1 * n.val = n.val
    rw [tile3, expert_word m hO hs t]; show 0 * 5632 + 1 * n.val = _; omega

end Cert.KernelIdeal.Run

end
-- ==== Proof.RefBody.lean ====
/- What the reference's one body leaves: its store names the four experts' products, each selected on the rows of its expert. -/
module

public import proofs.«01_k».proof.Proof.Gen.ReferenceIdeal.Frame
public import Idealize.ShloMosaic.Lib.VecWindow
public import Idealize.ShloMosaic.Lib.WholeRead
public import Idealize.ShloMosaic.Lib.Pointwise

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic

variable {F : FTy → Type} [FloatOps F]

/-- A load through a rectangle of a whole buffer is a window of its contents. -/
theorem readAt_window {κ : Kind} {sp : Space} {s : Shape} {e : EltTy} (v : Memref sig κ sp s e) (h : v.IsWhole) (X : s.Idx → Elt F e) (off size : Fin s.rank → ℕ) (inb : ∀ a, off a + size a ≤ s.size a) :
    View.readAt (Elt F) v.view (Rect.unit off size inb).toLoadRect (h.unread X) = VecWindow.window X off size inb :=
  funext fun y => h.readAt_unread X _ y

/-- The window of everything. -/
theorem window_all {α : Type} {s : Shape} (X : s.Idx → α) (off : Fin s.rank → ℕ) (inb : ∀ a, off a + s.size a ≤ s.size a) : VecWindow.window X off s.size inb = X :=
  funext fun y => congrArg X (funext fun a => Fin.ext (by have := inb a; show off a + 1 * (y a).val = (y a).val; omega))

/-- Expert `k`'s weights and its column scales. -/
def wOf (w : Vec F S4x2816x5632 .fp8e4m3) (k : ℕ) (hk : k < 4) : Vec F S1x2816x5632 .fp8e4m3 :=
  VecWindow.window w ![k, 0, 0] S1x2816x5632.size (fun a => by match a with | ⟨0, _⟩ => show k + 1 ≤ 4; omega | ⟨1, _⟩ => exact Nat.le_refl _ | ⟨2, _⟩ => exact Nat.le_refl _)

def wsOf (ws : Vec F S4x5632 .f32) (k : ℕ) (hk : k < 4) : Vec F S1x5632 .f32 :=
  VecWindow.window ws ![k, 0] S1x5632.size (fun a => by match a with | ⟨0, _⟩ => show k + 1 ≤ 4; omega | ⟨1, _⟩ => exact Nat.le_refl _)

/-- The numbers of the rows. -/
def rows : IVec S32768x1 32 := iota .tc S32768x1 32 [0] iota_S32768x1_d0_w32

/-- The body's block, of the four sizes and the four arrays. -/
def block (g0 g1 g2 g3 : Elt F .i32) (x : Vec F S32768x2816 .fp8e4m3) (xs : Vec F S32768x1 .f32) (w : Vec F S4x2816x5632 .fp8e4m3) (ws : Vec F S4x5632 .f32) : Vec F S32768x5632 .bf16 :=
  k0_pay1
    (k0_pay7 rows (k0_pay3 g0 (wsOf ws 0 (by omega))) (Scalar.addi (Scalar.addi 0#32 g0) g1) (k0_pay4 (F := F) g0 g1) (wsOf ws 1 (by omega)) g2 (wsOf ws 2 (by omega)))
    (k0_pay9 rows (Scalar.addi (Scalar.addi 0#32 g0) g1) (k0_pay5 g0 x (wOf w 0 (by omega)) g1 x (wOf w 1 (by omega))) g2 x (wOf w 2 (by omega)) g3 x (wOf w 3 (by omega)))
    (wsOf ws 3 (by omega)) (k0_pay10 (F := F) rows (Scalar.addi (Scalar.addi 0#32 g0) g1) g2 g3) xs

/-- One store through everything leaves its payload. -/
theorem read_full {κ : Kind} {sp : Space} {s : Shape} {e : EltTy} (v : View sig κ sp s e) (f : v.ty.Contents (Elt F)) (off : Fin s.rank → ℕ) (inb : ∀ a, off a + s.size a ≤ s.size a)
    (X : s.Idx → Elt F e) : v.read (Elt F) (v.writes (Elt F) f [⟨Rect.unit off s.size inb, X⟩]) = X := by
  funext y
  have h := View.read_writes_cons_emb v f (Rect.unit off s.size inb) X [] y
  have e : (Rect.unit off s.size inb).emb y = y := funext fun a => Fin.ext (by have := inb a; show off a + 1 * (y a).val = (y a).val; omega)
  rwa [e] at h

theorem out_eq (c : Dev nD) (arg0 : Memref sig .tc .smem S4 .i32) (harg0 : arg0.IsWhole) (arg1 : Memref sig .tc .vmem S32768x2816 .fp8e4m3) (harg1 : arg1.IsWhole) (arg2 : Memref sig .tc .vmem S32768x1 .f32) (harg2 : arg2.IsWhole) (arg3 : Memref sig .tc .vmem S4x2816x5632 .fp8e4m3) (harg3 : arg3.IsWhole) (arg4 : Memref sig .tc .vmem S4x5632 .f32) (harg4 : arg4.IsWhole) (arg5 : Memref sig .tc .vmem S32768x5632 .bf16) (harg5 : arg5.IsWhole)
    (x0 : Vec F S4 .i32) (x1 : Vec F S32768x2816 .fp8e4m3) (x2 : Vec F S32768x1 .f32) (x3 : Vec F S4x2816x5632 .fp8e4m3) (x4 : Vec F S4x5632 .f32) :
    out0_A_5 c arg0 harg0 arg1 harg1 arg2 harg2 arg3 harg3 arg4 harg4 arg5 harg5 x0 x1 x2 x3 x4
      = block (x0 (ix1 0)) (x0 (ix1 1)) (x0 (ix1 2)) (x0 (ix1 3)) x1 x2 x3 x4 := by
  have hx1 : View.readAt (Elt F) arg1.view (Rect.unit (s := S32768x2816) ![0, 0] S32768x2816.size inb_S32768x2816_S32768x2816_0_0).toLoadRect (harg1.unread x1) = x1 := (readAt_window _ _ _ _ _ _).trans (window_all _ _ _)
  have hx2 : View.readAt (Elt F) arg2.view (Rect.unit (s := S32768x1) ![0, 0] S32768x1.size inb_S32768x1_S32768x1_0_0).toLoadRect (harg2.unread x2) = x2 := (readAt_window _ _ _ _ _ _).trans (window_all _ _ _)
  have hw0 : View.readAt (Elt F) arg3.view (Rect.unit (s := S4x2816x5632) ![0, 0, 0] S1x2816x5632.size inb_S4x2816x5632_S1x2816x5632_0_0_0).toLoadRect (harg3.unread x3) = wOf x3 0 (by omega) := readAt_window _ _ _ _ _ _
  have hw1 : View.readAt (Elt F) arg3.view (Rect.unit (s := S4x2816x5632) ![1, 0, 0] S1x2816x5632.size inb_S4x2816x5632_S1x2816x5632_1_0_0).toLoadRect (harg3.unread x3) = wOf x3 1 (by omega) := readAt_window _ _ _ _ _ _
  have hw2 : View.readAt (Elt F) arg3.view (Rect.unit (s := S4x2816x5632) ![2, 0, 0] S1x2816x5632.size inb_S4x2816x5632_S1x2816x5632_2_0_0).toLoadRect (harg3.unread x3) = wOf x3 2 (by omega) := readAt_window _ _ _ _ _ _
  have hw3 : View.readAt (Elt F) arg3.view (Rect.unit (s := S4x2816x5632) ![3, 0, 0] S1x2816x5632.size inb_S4x2816x5632_S1x2816x5632_3_0_0).toLoadRect (harg3.unread x3) = wOf x3 3 (by omega) := readAt_window _ _ _ _ _ _
  have hs0 : View.readAt (Elt F) arg4.view (Rect.unit (s := S4x5632) ![0, 0] S1x5632.size inb_S4x5632_S1x5632_0_0).toLoadRect (harg4.unread x4) = wsOf x4 0 (by omega) := readAt_window _ _ _ _ _ _
  have hs1 : View.readAt (Elt F) arg4.view (Rect.unit (s := S4x5632) ![1, 0] S1x5632.size inb_S4x5632_S1x5632_1_0).toLoadRect (harg4.unread x4) = wsOf x4 1 (by omega) := readAt_window _ _ _ _ _ _
  have hs2 : View.readAt (Elt F) arg4.view (Rect.unit (s := S4x5632) ![2, 0] S1x5632.size inb_S4x5632_S1x5632_2_0).toLoadRect (harg4.unread x4) = wsOf x4 2 (by omega) := readAt_window _ _ _ _ _ _
  have hs3 : View.readAt (Elt F) arg4.view (Rect.unit (s := S4x5632) ![3, 0] S1x5632.size inb_S4x5632_S1x5632_3_0).toLoadRect (harg4.unread x4) = wsOf x4 3 (by omega) := readAt_window _ _ _ _ _ _
  have hg : ∀ (k : ℕ) (hk : k < 4) (inb : ∀ a, (![k] : Fin 1 → ℕ) a + S1.size a ≤ S4.size a) (y : S1.Idx),
      View.readAt (Elt F) arg0.view (Rect.unit (s := S4) ![k] S1.size inb).toLoadRect (harg0.unread x0) y = x0 (ix1 ⟨k, hk⟩) := fun k hk inb y => by
    rw [harg0.readAt_unread]
    refine congrArg x0 (funext fun a => ?_)
    match a with
    | ⟨0, _⟩ =>
      have hy : (y 0).val < 1 := (y 0).isLt
      exact Fin.ext (show k + 1 * (y 0).val = k by omega)
  unfold out0_A_5
  have hL : (kernelRun0_A c arg0 harg0 arg1 harg1 arg2 harg2 arg3 harg3 arg4 harg4 arg5 harg5 x0 x1 x2 x3 x4).1
      = [⟨Rect.unit (s := S32768x5632) ![0, 0] S32768x5632.size inb_S32768x5632_S32768x5632_0_0, block (x0 (ix1 0)) (x0 (ix1 1)) (x0 (ix1 2)) (x0 (ix1 3)) x1 x2 x3 x4⟩] := by
    unfold kernelRun0_A
    unfold kernelRun0_A.sl.r_8 kernelRun0_A.sl.r_9 kernelRun0_A.sl.r_10 kernelRun0_A.sl.r_11 kernelRun0_A.sl.r_2 kernelRun0_A.sl.r_3 kernelRun0_A.sl.r_4 kernelRun0_A.sl.r_5 kernelRun0_A.sl.r_6
      kernelRun0_A.sl.r_7 kernelRun0_A.sl.v0 kernelRun0_A.sl.v24 kernelRun0_A.sl.v4 kernelRun0_A.sl.r kernelRun0_A.sl.r_1
    dsimp only
    rw [hx1, hw0, hw1, hw2, hw3, hs0, hs1, hs2, hs3, hg 0 (by omega), hg 1 (by omega), hg 2 (by omega), hg 3 (by omega)]
    refine congrArg (fun p => [(⟨Rect.unit (s := S32768x5632) ![0, 0] S32768x5632.size inb_S32768x5632_S32768x5632_0_0, p⟩ : View.Piece (Elt F) S32768x5632 .bf16)]) ?_
    exact congrArg (k0_pay1 _ _ _ _) hx2
  rw [hL]
  exact read_full VO0_5 _ _ _ _

end Cert.ReferenceIdeal.Value

end
-- ==== Proof.RefEntry.lean ====
/- One entry of the reference's block, over the extended reals: of the four experts' products, the one the row's conditions select last. -/
module

public import proofs.«01_k».proof.Proof.RefBody

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic

/-- Row `R` is one of those from `a` up to `b`. -/
abbrev inside (a b : BitVec 32) (R : Fin 32768) : Prop := a.toInt ≤ R.val ∧ (R.val : ℤ) < b.toInt

theorem row_word (R : Fin 32768) : (BitVec.ofNat 32 R.val).toInt = R.val := by
  have := R.isLt
  rw [BitVec.toInt_eq_toNat_of_lt (by rw [BitVec.toNat_ofNat]; omega), BitVec.toNat_ofNat]; omega

theorem and_bit (a b : BitVec 1) : a &&& b = 1#1 ↔ a = 1#1 ∧ b = 1#1 := by
  revert a b; decide

variable (g0 g1 g2 g3 : BitVec 32) (R : Fin 32768) (n : Fin 5632)

/-- The four experts' conditions on a row. -/
theorem mask0 : (k0_pay2 (F := Ideal) g0 (ix2 R 0) = 1#1) ↔ inside 0#32 (0#32 + g0) R := by
  pointwise [k0_pay2]
  unfold inside
  rw [← row_word R]
  exact (and_bit _ _).trans (and_congr IntOp.cmpi_sge IntOp.cmpi_slt)

theorem mask1 : (k0_pay4 (F := Ideal) g0 g1 (ix2 R 0) = 1#1) ↔ inside (0#32 + g0) (0#32 + g0 + g1) R := by
  pointwise [k0_pay4]
  unfold inside
  rw [← row_word R]
  exact (and_bit _ _).trans (and_congr IntOp.cmpi_sge IntOp.cmpi_slt)

theorem mask2 (e : BitVec 32) : (k0_pay6 (F := Ideal) rows e g2 (ix2 R 0) = 1#1) ↔ inside e (e + g2) R := by
  pointwise [k0_pay6, rows]
  unfold inside
  rw [← row_word R]
  exact (and_bit _ _).trans (and_congr IntOp.cmpi_sge IntOp.cmpi_slt)

theorem mask3 (e : BitVec 32) : (k0_pay8 (F := Ideal) rows e g2 g3 (ix2 R 0) = 1#1) ↔ inside (e + g2) (e + g2 + g3) R := by
  pointwise [k0_pay8, rows]
  unfold inside
  rw [← row_word R]
  exact (and_bit _ _).trans (and_congr IntOp.cmpi_sge IntOp.cmpi_slt)

variable (x : Vec Ideal S32768x2816 .fp8e4m3) (xs : Vec Ideal S32768x1 .f32)

/-- The products selected after the first two experts. -/
theorem dots1 (w0 w1 : Vec Ideal S1x2816x5632 .fp8e4m3) :
    k0_pay5 g0 x w0 g1 x w1 (ix2 R n) = if k0_pay4 (F := Ideal) g0 g1 (ix2 R 0) = 1#1 then ∑ k : Fin 2816, x (ix2 R k) * w1 (ix3 0 k n)
      else if k0_pay2 (F := Ideal) g0 (ix2 R 0) = 1#1 then ∑ k : Fin 2816, x (ix2 R k) * w0 (ix3 0 k n) else 0 := by
  unfold k0_pay5
  generalize k0_pay4 (F := Ideal) g0 g1 = M1
  generalize k0_pay2 (F := Ideal) g0 = M0
  pointwise
  rfl

/-- The products selected after all four. -/
theorem dots3 (e : BitVec 32) (d : FVec Ideal S32768x5632 .f32) (w2 w3 : Vec Ideal S1x2816x5632 .fp8e4m3) :
    k0_pay9 rows e d g2 x w2 g3 x w3 (ix2 R n) = if k0_pay8 (F := Ideal) rows e g2 g3 (ix2 R 0) = 1#1 then ∑ k : Fin 2816, x (ix2 R k) * w3 (ix3 0 k n)
      else if k0_pay6 (F := Ideal) rows e g2 (ix2 R 0) = 1#1 then ∑ k : Fin 2816, x (ix2 R k) * w2 (ix3 0 k n) else d (ix2 R n) := by
  unfold k0_pay9
  generalize k0_pay8 (F := Ideal) rows e g2 g3 = M1
  generalize k0_pay6 (F := Ideal) rows e g2 = M0
  pointwise
  rfl

/-- The column scales selected after the first expert, and after three. -/
theorem scales0 (s0 : Vec Ideal S1x5632 .f32) :
    k0_pay3 g0 s0 (ix2 R n) = if k0_pay2 (F := Ideal) g0 (ix2 R 0) = 1#1 then s0 (ix2 0 n) else 0 := by
  unfold k0_pay3
  generalize k0_pay2 (F := Ideal) g0 = M0
  pointwise
  rfl

theorem scales2 (e : BitVec 32) (d : FVec Ideal S32768x5632 .f32) (M1 : IVec S32768x1 1) (s1 s2 : Vec Ideal S1x5632 .f32) :
    k0_pay7 rows d e M1 s1 g2 s2 (ix2 R n) = if k0_pay6 (F := Ideal) rows e g2 (ix2 R 0) = 1#1 then s2 (ix2 0 n)
      else if M1 (ix2 R 0) = 1#1 then s1 (ix2 0 n) else d (ix2 R n) := by
  unfold k0_pay7
  generalize k0_pay6 (F := Ideal) rows e g2 = M0
  pointwise
  rfl

/-- The mask of the last expert, along the columns. -/
theorem wide3 (e : BitVec 32) : k0_pay10 (F := Ideal) rows e g2 g3 (ix2 R n) = k0_pay8 (F := Ideal) rows e g2 g3 (ix2 R 0) := by
  unfold k0_pay10
  generalize k0_pay8 (F := Ideal) rows e g2 g3 = M0
  pointwise

/-- The result: the selected product times the row's scale times the selected column scale. -/
theorem scaled (d p : FVec Ideal S32768x5632 .f32) (s3 : Vec Ideal S1x5632 .f32) (M : IVec S32768x5632 1) :
    k0_pay1 d p s3 M xs (ix2 R n) = p (ix2 R n) * xs (ix2 R 0) * (if M (ix2 R n) = 1#1 then s3 (ix2 0 n) else d (ix2 R n)) := by
  unfold k0_pay1
  pointwise
  rfl

variable (w : Vec Ideal S4x2816x5632 .fp8e4m3) (ws : Vec Ideal S4x5632 .f32)

theorem wOf_at (k : ℕ) (hk : k < 4) (j : Fin 2816) : wOf w k hk (ix3 0 j n) = w (ix3 ⟨k, hk⟩ j n) := by
  show w _ = _
  refine congrArg w (funext fun a => ?_)
  match a with
  | ⟨0, _⟩ => exact Fin.ext (show k + 1 * 0 = k by omega)
  | ⟨1, _⟩ => exact Fin.ext (show 0 + 1 * j.val = j.val by omega)
  | ⟨2, _⟩ => exact Fin.ext (show 0 + 1 * n.val = n.val by omega)

theorem wsOf_at (k : ℕ) (hk : k < 4) : wsOf ws k hk (ix2 0 n) = ws (ix2 ⟨k, hk⟩ n) := by
  show ws _ = _
  refine congrArg ws (funext fun a => ?_)
  match a with
  | ⟨0, _⟩ => exact Fin.ext (show k + 1 * 0 = k by omega)
  | ⟨1, _⟩ => exact Fin.ext (show 0 + 1 * n.val = n.val by omega)

/-- The routed product at an entry: row `R` times column `n` of expert `e`'s weights, scaled by the row's and the column's scales. -/
def entry (e : Fin 4) : EReal := (∑ k : Fin 2816, x (ix2 R k) * w (ix3 e k n)) * xs (ix2 R 0) * ws (ix2 e n)

/-- The block at an entry. -/
theorem block_at (e : Fin 4) (m0 : inside 0#32 (0#32 + g0) R ↔ e = 0) (m1 : inside (0#32 + g0) (0#32 + g0 + g1) R ↔ e = 1)
    (m2 : inside (0#32 + g0 + g1) (0#32 + g0 + g1 + g2) R ↔ e = 2) (m3 : inside (0#32 + g0 + g1 + g2) (0#32 + g0 + g1 + g2 + g3) R ↔ e = 3) :
    block g0 g1 g2 g3 x xs w ws (ix2 R n) = entry R n x xs w ws e := by
  have ha : Scalar.addi (Scalar.addi 0#32 g0) g1 = 0#32 + g0 + g1 := rfl
  unfold block
  rw [scaled, dots3, wide3, scales2, dots1, scales0, ha]
  simp only [mask0, mask1, mask2, mask3, m0, m1, m2, m3, wOf_at, wsOf_at]
  unfold entry
  match e with
  | ⟨0, _⟩ => simp
  | ⟨1, _⟩ => simp
  | ⟨2, _⟩ => simp
  | ⟨3, _⟩ => simp

end Cert.ReferenceIdeal.Value

end
-- ==== Proof.RefValue.lean ====
/- The reference's array: each row's product is its own expert's. -/
module

public import proofs.«01_k».proof.Proof.RefEntry
public import proofs.«01_k».proof.Proof.Sizes
public import Idealize.ShloMosaic.Lib.Pipeline.ValueKit

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.ShloMosaic.Pipeline (Dat Cfg Window)
open Cert.KernelIdeal.Sizes (nat nat_holds)

section Numbers
open Cert

/-- A row's expert is one of the four. -/
theorem owner_lt (s : ℕ → ℕ) (hs : Count.sumTo s 3 = 32768) (R : Fin 32768) : Count.owner s R.val < 4 := by
  have hR := R.isLt
  have e3 : Count.stop s 3 = 32768 := hs
  have : Count.owner s R.val = (if Count.stop s 0 ≤ R.val then 1 else 0) + ((if Count.stop s 1 ≤ R.val then 1 else 0) + ((if Count.stop s 2 ≤ R.val then 1 else 0) + ((if Count.stop s 3 ≤ R.val then 1 else 0) + 0))) := rfl
  rw [this, if_neg (c := Count.stop s 3 ≤ R.val) (by omega)]
  split <;> split <;> split <;> omega

/-- A row lies in its expert's range, and in no other's. -/
theorem owner_iff (s : ℕ → ℕ) (hs : Count.sumTo s 3 = 32768) (R : Fin 32768) (k : ℕ) (hk : k < 4) :
    (Count.start s k ≤ R.val ∧ R.val < Count.stop s k) ↔ Count.owner s R.val = k := by
  refine ⟨fun h => Count.owner_cases hs R.val k hk h.1 h.2, fun h => ?_⟩
  have hR := R.isLt
  have e0 : Count.stop s 0 = s 0 := Count.sumTo_zero s
  have e1 : Count.stop s 1 = Count.stop s 0 + s 1 := Count.sumTo_succ s 0
  have e2 : Count.stop s 2 = Count.stop s 1 + s 2 := Count.sumTo_succ s 1
  have e3 : Count.stop s 3 = Count.stop s 2 + s 3 := Count.sumTo_succ s 2
  have e : Count.stop s 3 = 32768 := hs
  have hcase : ∃ j < 4, Count.start s j ≤ R.val ∧ R.val < Count.stop s j := by
    unfold Count.start
    by_cases h0 : R.val < Count.stop s 0
    · exact ⟨0, by omega, by omega, h0⟩
    by_cases h1 : R.val < Count.stop s 1
    · exact ⟨1, by omega, by omega, h1⟩
    by_cases h2 : R.val < Count.stop s 2
    · exact ⟨2, by omega, by omega, h2⟩
    · exact ⟨3, by omega, by omega, by omega⟩
  obtain ⟨j, hj, h1, h2⟩ := hcase
  have : j = k := (Count.owner_cases hs R.val j hj h1 h2).symm.trans h
  exact this ▸ ⟨h1, h2⟩

/-- The range of words `a … b` is the range of numbers. -/
theorem inside_ofNat (a b : ℕ) (ha : a ≤ 32768) (hb : b ≤ 32768) (R : Fin 32768) : inside (BitVec.ofNat 32 a) (BitVec.ofNat 32 b) R ↔ a ≤ R.val ∧ R.val < b := by
  unfold inside
  rw [WordArith.toInt_ofNat_small a (by omega), WordArith.toInt_ofNat_small b (by omega)]
  omega

end Numbers

/-- The expert of a row, of the sizes. -/
def expertOf (g : Vec Ideal S4 .i32) (hs : Cert.Count.sumTo (nat g) 3 = 32768) (R : Fin 32768) : Fin 4 := ⟨Cert.Count.owner (nat g) R.val, owner_lt _ hs R⟩

variable (g : Vec Ideal S4 .i32) (hs : Cert.Count.sumTo (nat g) 3 = 32768)

/-- The block at an entry, its sizes adding up to the rows. -/
theorem block_entry (x : Vec Ideal S32768x2816 .fp8e4m3) (xs : Vec Ideal S32768x1 .f32) (w : Vec Ideal S4x2816x5632 .fp8e4m3) (ws : Vec Ideal S4x5632 .f32) (R : Fin 32768) (n : Fin 5632) :
    block (g (ix1 0)) (g (ix1 1)) (g (ix1 2)) (g (ix1 3)) x xs w ws (ix2 R n) = entry R n x xs w ws (expertOf g hs R) := by
  have h := nat_holds g
  generalize hsz : nat g = s at h
  have hs' : Cert.Count.sumTo s 3 = 32768 := hsz ▸ hs
  have e0 : Cert.Count.stop s 0 = s 0 := Cert.Count.sumTo_zero s
  have e1 : Cert.Count.stop s 1 = Cert.Count.stop s 0 + s 1 := Cert.Count.sumTo_succ s 0
  have e2 : Cert.Count.stop s 2 = Cert.Count.stop s 1 + s 2 := Cert.Count.sumTo_succ s 1
  have e3 : Cert.Count.stop s 3 = Cert.Count.stop s 2 + s 3 := Cert.Count.sumTo_succ s 2
  have e : Cert.Count.stop s 3 = 32768 := hs'
  have g0 : g (ix1 0) = BitVec.ofNat 32 (s 0) := h 0
  have g1 : g (ix1 1) = BitVec.ofNat 32 (s 1) := h 1
  have g2 : g (ix1 2) = BitVec.ofNat 32 (s 2) := h 2
  have g3 : g (ix1 3) = BitVec.ofNat 32 (s 3) := h 3
  have s0 : (0#32 : BitVec 32) + g (ix1 0) = BitVec.ofNat 32 (Cert.Count.stop s 0) := by rw [g0, e0, BitVec.zero_add]
  have s1 : BitVec.ofNat 32 (Cert.Count.stop s 0) + g (ix1 1) = BitVec.ofNat 32 (Cert.Count.stop s 1) := by rw [g1, e1]; exact Cert.KernelIdeal.Rows.ofNat_add _ _
  have s2 : BitVec.ofNat 32 (Cert.Count.stop s 1) + g (ix1 2) = BitVec.ofNat 32 (Cert.Count.stop s 2) := by rw [g2, e2]; exact Cert.KernelIdeal.Rows.ofNat_add _ _
  have s3 : BitVec.ofNat 32 (Cert.Count.stop s 2) + g (ix1 3) = BitVec.ofNat 32 (Cert.Count.stop s 3) := by rw [g3, e3]; exact Cert.KernelIdeal.Rows.ofNat_add _ _
  have z : (0#32 : BitVec 32) = BitVec.ofNat 32 0 := rfl
  have fe : ∀ (k : ℕ) (hk : k < 4), (expertOf g hs R = ⟨k, hk⟩) ↔ Cert.Count.owner s R.val = k := fun k hk => by
    subst hsz
    exact Fin.ext_iff
  have o0 := owner_iff s hs' R 0 (by omega)
  have o1 := owner_iff s hs' R 1 (by omega)
  have o2 := owner_iff s hs' R 2 (by omega)
  have o3 := owner_iff s hs' R 3 (by omega)
  have t0 : Cert.Count.start s 0 = 0 := by unfold Cert.Count.start; omega
  have t1 : Cert.Count.start s 1 = Cert.Count.stop s 0 := by unfold Cert.Count.start; omega
  have t2 : Cert.Count.start s 2 = Cert.Count.stop s 1 := by unfold Cert.Count.start; omega
  have t3 : Cert.Count.start s 3 = Cert.Count.stop s 2 := by unfold Cert.Count.start; omega
  rw [t0] at o0; rw [t1] at o1; rw [t2] at o2; rw [t3] at o3
  refine block_at _ _ _ _ R n x xs w ws _ ?_ ?_ ?_ ?_
  · rw [s0]; exact (inside_ofNat 0 _ (by omega) (by omega) R).trans (o0.trans (fe 0 (by omega)).symm)
  · rw [s0, s1]; exact (inside_ofNat _ _ (by omega) (by omega) R).trans (o1.trans (fe 1 (by omega)).symm)
  · rw [s0, s1, s2]; exact (inside_ofNat _ _ (by omega) (by omega) R).trans (o2.trans (fe 2 (by omega)).symm)
  · rw [s0, s1, s2, s3]; exact (inside_ofNat _ _ (by omega) (by omega) R).trans (o3.trans (fe 3 (by omega)).symm)

/-- The routed product as an array. -/
def routed (x : Vec Ideal S32768x2816 .fp8e4m3) (xs : Vec Ideal S32768x1 .f32) (w : Vec Ideal S4x2816x5632 .fp8e4m3) (ws : Vec Ideal S4x5632 .f32) : Vec Ideal S32768x5632 .bf16 :=
  fun i => entry (i 0) (i 1) x xs w ws (expertOf g hs (i 0))

variable (m : (ℓ : Loc nD τ sig) → Buf (Elt Ideal) ℓ)

/-- The inputs' blocks are the arrays. -/
theorem in0 (c : Dev nD) (t : Fin cfg0.N) : (iblk m c 0 t : Vec Ideal S4 .i32) = m ((c : Thread nD τ).loc main_arg4) :=
  funext fun y => congrArg (m ((c : Thread nD τ).loc main_arg4)) (funext fun a => Fin.ext (by
    match a with
    | ⟨0, _⟩ => show 0 * 4 + 1 * (y 0).val = (y 0).val; omega))
theorem in1 (c : Dev nD) (t : Fin cfg0.N) : (iblk m c 1 t : Vec Ideal S32768x2816 .fp8e4m3) = m ((c : Thread nD τ).loc main_arg0) :=
  funext fun y => congrArg (m ((c : Thread nD τ).loc main_arg0)) (funext fun a => Fin.ext (by
    match a with
    | ⟨0, _⟩ => show 0 * 32768 + 1 * (y 0).val = (y 0).val; omega
    | ⟨1, _⟩ => show 0 * 2816 + 1 * (y 1).val = (y 1).val; omega))
theorem in2 (c : Dev nD) (t : Fin cfg0.N) : (iblk m c 2 t : Vec Ideal S32768x1 .f32) = m ((c : Thread nD τ).loc main_arg1) :=
  funext fun y => congrArg (m ((c : Thread nD τ).loc main_arg1)) (funext fun a => Fin.ext (by
    match a with
    | ⟨0, _⟩ => show 0 * 32768 + 1 * (y 0).val = (y 0).val; omega
    | ⟨1, _⟩ => show 0 * 1 + 1 * (y 1).val = (y 1).val; omega))
theorem in3 (c : Dev nD) (t : Fin cfg0.N) : (iblk m c 3 t : Vec Ideal S4x2816x5632 .fp8e4m3) = m ((c : Thread nD τ).loc main_arg2) :=
  funext fun y => congrArg (m ((c : Thread nD τ).loc main_arg2)) (funext fun a => Fin.ext (by
    match a with
    | ⟨0, _⟩ => show 0 * 4 + 1 * (y 0).val = (y 0).val; omega
    | ⟨1, _⟩ => show 0 * 2816 + 1 * (y 1).val = (y 1).val; omega
    | ⟨2, _⟩ => show 0 * 5632 + 1 * (y 2).val = (y 2).val; omega))
theorem in4 (c : Dev nD) (t : Fin cfg0.N) : (iblk m c 4 t : Vec Ideal S4x5632 .f32) = m ((c : Thread nD τ).loc main_arg3) :=
  funext fun y => congrArg (m ((c : Thread nD τ).loc main_arg3)) (funext fun a => Fin.ext (by
    match a with
    | ⟨0, _⟩ => show 0 * 4 + 1 * (y 0).val = (y 0).val; omega
    | ⟨1, _⟩ => show 0 * 5632 + 1 * (y 1).val = (y 1).val; omega))

/-- What the body leaves at the one point. -/
theorem outs_at (c : Dev nD) (t : Fin cfg0.N) (hs : Cert.Count.sumTo (nat (m ((c : Thread nD τ).loc main_arg4))) 3 = 32768) (R : Fin 32768) (n : Fin 5632) :
    outsAt0 m c t (ix2 R n) = routed (m ((c : Thread nD τ).loc main_arg4)) hs (m ((c : Thread nD τ).loc main_arg0)) (m ((c : Thread nD τ).loc main_arg1)) (m ((c : Thread nD τ).loc main_arg2)) (m ((c : Thread nD τ).loc main_arg3)) (ix2 R n) := by
  unfold outsAt0
  rw [out_eq, in0, in1, in2, in3, in4]
  exact block_entry _ hs _ _ _ _ R n

/-- The reference's array after the run. -/
theorem final (c : Dev nD) (hs : Cert.Count.sumTo (nat (m ((c : Thread nD τ).loc main_arg4))) 3 = 32768) :
    (dats m 0 c).arrAt 5 cfg0.N = routed (m ((c : Thread nD τ).loc main_arg4)) hs (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  obtain ⟨R, n, rfl⟩ : ∃ (R : Fin 32768) (n : Fin 5632), y = ix2 R n := ⟨y 0, y 1, funext fun a => by
    match a with
    | ⟨0, _⟩ => rfl
    | ⟨1, _⟩ => rfl⟩
  refine (outs_at m c t hs R n).trans (congrArg (routed _ hs _ _ _ _) (funext fun a => Fin.ext ?_))
  match a with
  | ⟨0, _⟩ => show R.val = 0 * 32768 + 1 * R.val; omega
  | ⟨1, _⟩ => show n.val = 0 * 5632 + 1 * n.val; omega

end Cert.ReferenceIdeal.Value

end
-- ==== Proof.Value.lean ====
/- What the kernel's output block holds after each visit: the rows done so far hold the routed product, the others zero. -/
module

public import proofs.«01_k».proof.Proof.Product
public import proofs.«01_k».proof.Proof.Blocks
public import proofs.«01_k».proof.Proof.RefValue

@[expose] public section

set_option maxRecDepth 16384

noncomputable section

namespace Cert.KernelIdeal.Run

open Cert.KernelIdeal Cert.KernelIdeal.Gen Cert.KernelIdeal.Body Cert.KernelIdeal.Entry Cert.KernelIdeal.Table
open Idealize.ShloMosaic Idealize.ShloMosaic.TcCoe Idealize.ShloMosaic.Tactic
open Idealize.ShloMosaic.Pipeline (Dat Cfg Window)

variable (m : (ℓ : Loc nD τ sig) → Buf (Elt Ideal) ℓ)

attribute [local irreducible] tbl V

/-- The expert of a row. -/
def owned (hs : Count.sumTo (ns m) 3 = 32768) (R : Fin 32768) : Fin 4 := ⟨Count.owner (ns m) R.val, Cert.ReferenceIdeal.Value.owner_lt _ hs R⟩

/-- The routed product at an entry, of the arrays the program is given. -/
def product (hs : Count.sumTo (ns m) 3 = 32768) (c : Dev nD) (R : Fin 32768) (n : Fin 5632) : EReal :=
  Cert.ReferenceIdeal.Value.entry R n (m ((c : Thread nD τ).loc main_arg0)) (m ((c : Thread nD τ).loc main_arg1)) (m ((c : Thread nD τ).loc main_arg2)) (m ((c : Thread nD τ).loc main_arg3)) (owned m hs R)

/-- Equal factors give equal scaled products. -/
theorem scaled_congr {X X' W W' : Fin 2816 → EReal} {a a' b b' : EReal} (hX : ∀ k, X k = X' k) (hW : ∀ k, W k = W' k) (ha : a = a') (hb : b = b') :
    (∑ k, X k * W k) * a * b = (∑ k, X' k * W' k) * a' * b' := by
  rw [funext hX, funext hW, ha, hb]

variable (hO : Good m) (hs : Count.sumTo (ns m) 3 = 32768) (c : Dev nD)
include hs

/-- The rows of a visit, as numbers. -/
theorem mine_iff (t : Fin (cfgM m hO).N) (r : Fin 512) :
    mine (tab (tbl m) 2 (visit (grid0.coords t))) (tab (tbl m) 3 (visit (grid0.coords t))) r ↔ Count.lo (ns m) t.val ≤ r.val ∧ r.val < Count.hi (ns m) t.val := by
  have h1 := Count.lo_le hs t.val
  have h2 := (Count.hi_le hs t.val).trans (Count.done_le hs t.val)
  have hl : tab (tbl m) 2 (visit (grid0.coords t)) = BitVec.ofNat 32 (Count.lo (ns m) t.val) := (nat_lo m hs _).trans (congrArg (fun v => BitVec.ofNat 32 (Count.lo (ns m) v)) (visit_coords t))
  have hh : tab (tbl m) 3 (visit (grid0.coords t)) = BitVec.ofNat 32 (Count.hi (ns m) t.val) := (nat_hi m hs _).trans (congrArg (fun v => BitVec.ofNat 32 (Count.hi (ns m) v)) (visit_coords t))
  unfold mine
  rw [hl, hh, WordArith.toInt_ofNat_small _ (by omega), WordArith.toInt_ofNat_small _ (by omega)]
  omega

/-- On a visit's rows the scaled product is the routed one. -/
theorem cell_product (t : Fin (cfgM m hO).N) (r : Fin 512) (n : Fin 5632) (h : Count.lo (ns m) t.val ≤ r.val ∧ r.val < Count.hi (ns m) t.val) :
    cell (iblk m hO c 0 t) (iblk m hO c 1 t) (iblk m hO c 2 t) (iblk m hO c 3 t) r n = product m hs c (rowOf m hs t.val r) n := by
  have e : owned m hs (rowOf m hs t.val r) = expertAt m hs t.val := Fin.ext (Count.mine_owner hs t.val r.val h.1 h.2).2
  unfold product
  rw [e]
  exact (cell_at _ _ _ _ r n).trans (scaled_congr (fun k => in_x m hO hs c t r k) (fun k => in_w m hO hs c t k n) (in_xs m hO hs c t r) (in_ws m hO hs c t n))

/-- One visit, entry by entry. -/
theorem visitStep_at (t : Fin (cfgM m hO).N) (y : Vec Ideal S512x5632 .bf16) (r : Fin 512) (n : Fin 5632) :
    visitStep m hO c t y (ix2 r n) = if Count.lo (ns m) t.val ≤ r.val ∧ r.val < Count.hi (ns m) t.val then product m hs c (rowOf m hs t.val r) n
      else if tab (tbl m) 4 (visit (grid0.coords t)) = 1#32 then k0_pay1 (F := Ideal) (ix2 r n) else y (ix2 r n) := by
  refine (step_at _ _ _ _ _ _ _ y r n).trans ?_
  by_cases h : Count.lo (ns m) t.val ≤ r.val ∧ r.val < Count.hi (ns m) t.val
  · rw [if_pos h, if_pos ((mine_iff m hO hs t r).mpr h), cell_product m hO hs c t r n h]
  · rw [if_neg h, if_neg (fun h' => h ((mine_iff m hO hs t r).mp h'))]

/-- A row's place depends on the visit's tile alone. -/
theorem rowOf_congr {v v' : ℕ} (h : Count.tile (ns m) v = Count.tile (ns m) v') (r : Fin 512) : rowOf m hs v r = rowOf m hs v' r :=
  Fin.ext (congrArg (fun T => T * 512 + r.val) h)

/-- After visit `v`: the rows of its tile done so far hold the routed product, the others zero. -/
theorem outN_at (r : Fin 512) (n : Fin 5632) : ∀ (v : ℕ) (h : v < (cfgM m hO).N),
    outN m hO c v h (ix2 r n) = if r.val < Count.done (ns m) v then product m hs c (rowOf m hs v r) n else k0_pay1 (F := Ideal) (ix2 r n)
  | 0, h => by
    refine (visitStep_at m hO hs c ⟨0, h⟩ _ r n).trans ?_
    by_cases hm : Count.lo (ns m) 0 ≤ r.val ∧ r.val < Count.hi (ns m) 0
    · rw [if_pos (by exact hm), if_pos (Count.mine_owner hs 0 r.val hm.1 hm.2).1]
    · rw [if_neg (by exact hm), if_neg (Count.first_zero hs r.val hm), ite_self]
  | v + 1, h => by
    have hv : v + 1 < 67 := cN m hO ▸ h
    refine (visitStep_at m hO hs c ⟨v + 1, h⟩ _ r n).trans ?_
    by_cases hm : Count.lo (ns m) (v + 1) ≤ r.val ∧ r.val < Count.hi (ns m) (v + 1)
    · rw [if_pos (by exact hm), if_pos (Count.mine_owner hs (v + 1) r.val hm.1 hm.2).1]
    · rw [if_neg (by exact hm)]
      have hf : tab (tbl m) 4 (visit (grid0.coords (⟨v + 1, h⟩ : Fin (cfgM m hO).N))) = BitVec.ofNat 32 (if Count.tile (ns m) (v + 1) ≠ Count.tile (ns m) v then 1 else 0) :=
        (congrArg (tab (tbl m) 4) (Fin.ext (visit_coords _))).trans (nat_first m hs v hv)
      by_cases ht : Count.tile (ns m) (v + 1) = Count.tile (ns m) v
      · have hne : tab (tbl m) 4 (visit (grid0.coords (⟨v + 1, h⟩ : Fin (cfgM m hO).N))) ≠ 1#32 := by
          rw [hf, if_neg (fun h' => h' ht)]; decide
        have hrow : rowOf m hs (v + 1) r = rowOf m hs v r := rowOf_congr m hs ht r
        refine (if_neg hne).trans ((outN_at r n v (Nat.lt_of_succ_lt h)).trans ?_)
        rw [hrow]
        exact if_congr (Count.later_succ hs v r.val ht hm).symm rfl rfl
      · have heq : tab (tbl m) 4 (visit (grid0.coords (⟨v + 1, h⟩ : Fin (cfgM m hO).N))) = 1#32 := by
          rw [hf, if_pos ht]
        exact (if_pos heq).trans (if_neg (Count.first_succ hs v r.val ht hm)).symm

end Cert.KernelIdeal.Run

end
-- ==== Proof.Final.lean ====
/- The kernel's array after its run: every row is written at its tile's last visit, when all of it is done. -/
module

public import proofs.«01_k».proof.Proof.Value
public import proofs.«01_k».proof.Proof.Cover
public import Idealize.ShloMosaic.Lib.Pipeline.ValueKit
public import Idealize.ShloMosaic.Lib.Pipeline.Covers

@[expose] public section

set_option maxRecDepth 16384

noncomputable section

namespace Cert.KernelIdeal.Run

open Cert.KernelIdeal Cert.KernelIdeal.Gen Cert.KernelIdeal.Body Cert.KernelIdeal.Entry Cert.KernelIdeal.Table
open Idealize.ShloMosaic Idealize.ShloMosaic.TcCoe Idealize.ShloMosaic.Tactic
open Idealize.ShloMosaic.Pipeline (Dat Cfg Window)

variable (m : (ℓ : Loc nD τ sig) → Buf (Elt Ideal) ℓ)

attribute [local irreducible] tbl V

variable (hO : Good m) (hs : Count.sumTo (ns m) 3 = 32768) (c : Dev nD)
include hs

/-- A visit whose block goes out is the last of its tile. -/
theorem flush_last (t : Fin (cfgM m hO).N) (h : ((cfgM m hO).win 4).flush t = true) : Count.done (ns m) t.val = 512 := by
  refine Count.done_full hs t.val ?_
  rcases (((cfgM m hO).win 4).flush_out rfl t).mp h with h | ⟨hN, h⟩
  · exact Or.inl (h.trans (cN m hO))
  · refine Or.inr fun e => h ?_
    rw [idx4 m hO hs t]
    refine (idx4 m hO hs ⟨t.val + 1, hN⟩).trans ?_
    show ![Count.tile (ns m) (t.val + 1), 0] = _
    rw [e]

/-- The blocks that go out cover the array. -/
theorem covers : ((cfgM m hO).win 4).Covers := by
  refine ((cfgM m hO).win 4).covers_of_index_surj rfl (fun a => ?_) fun β => ?_
  · match a with
    | ⟨0, _⟩ => exact (by omega : 0 < 512)
    | ⟨1, _⟩ => exact (by omega : 0 < 5632)
  · have h0 : (β ⟨0, Nat.zero_lt_two⟩).val < 64 := lt_of_lt_of_eq (β ⟨0, Nat.zero_lt_two⟩).isLt (show (32768 + 512 - 1) / 512 = 64 by decide)
    have h1 : (β ⟨1, Nat.one_lt_two⟩).val < 1 := lt_of_lt_of_eq (β ⟨1, Nat.one_lt_two⟩).isLt (show (5632 + 5632 - 1) / 5632 = 1 by decide)
    obtain ⟨v, hv, e⟩ := Count.visited hs _ h0
    have hv' : v < (cfgM m hO).N := (cN m hO).symm ▸ hv
    refine ⟨⟨v, hv'⟩, fun a => (congrFun (idx4 m hO hs ⟨v, hv'⟩) a).trans ?_⟩
    match a with
    | ⟨0, _⟩ => exact e
    | ⟨1, _⟩ => exact (Nat.lt_one_iff.mp h1).symm

/-- The array after the run is the routed product. -/
theorem result_eq : result m hO c = fun i => product m hs c (i 0) (i 1) := by
  refine (dats m hO 0 c).arrAt_eq_of_covers 4 _ (covers m hO hs) fun t hf y => ?_
  blk_simp
  rw [after4]
  obtain ⟨r, n, rfl⟩ : ∃ (r : Fin 512) (n : Fin 5632), y = ix2 r n := ⟨y ⟨0, Nat.zero_lt_two⟩, y ⟨1, Nat.one_lt_two⟩, funext fun a => by
    match a with
    | ⟨0, _⟩ => rfl
    | ⟨1, _⟩ => rfl⟩
  refine (outN_at m hO hs c r n t.val t.isLt).trans ((if_pos ?_).trans (congrArg₂ (product m hs c) (Fin.ext ?_) (Fin.ext ?_)))
  · rw [flush_last m hO hs t hf]; exact r.isLt
  · show Count.tile (ns m) t.val * 512 + r.val = cc0_transform_4 k0_off1_inb numel1_S1x1 (tbl m) (grid0.coords t) 0 * 512 + 1 * r.val
    rw [tile4, tile_word m hO hs t]; show _ = Count.tile (ns m) t.val * 512 + 1 * r.val; omega
  · show n.val = cc0_transform_4 k0_off1_inb numel1_S1x1 (tbl m) (grid0.coords t) 1 * 5632 + 1 * n.val
    rw [tile4, tile_word m hO hs t]; show _ = 0 * 5632 + 1 * n.val; omega

end Cert.KernelIdeal.Run

end
-- ==== Proof.Equation.lean ====
/- The equation: both programs, given the same arguments, end with the routed product. -/
module

public import proofs.«01_k».proof.Defs
public import proofs.«01_k».proof.Proof.Final
public import proofs.«01_k».proof.Proof.Frames
public import proofs.«01_k».proof.Proof.Gen.ReferenceIdeal.Frame
public import Idealize.ShloMosaic.Lib.Tactic

@[expose] public section

set_option maxRecDepth 16384

noncomputable section

namespace Cert.Equation

open Idealize.ShloMosaic Idealize.SL.Sem
open Cert.KernelIdeal.Run (ns product)
open Cert.ReferenceIdeal.Value (routed)

attribute [local instance] Cert.Kernel.Gen.facts Cert.KernelIdeal.Gen.facts Cert.ReferenceIdeal.Gen.facts Cert.Pre_sizes_ok.Gen.facts

section Reference
open Cert.ReferenceIdeal Cert.ReferenceIdeal.Gen

variable (m : (ℓ : Loc nD τ sig) → Buf (Elt Ideal) ℓ) (ρ : Dev nD → PrngReg)

/-- The reference's run: its result is its array after the run, its arguments end as they began. -/
theorem reference_run : θ_run (defs (F := Ideal)) (onTc (τ := τ) (main (F := Ideal))) ⟨m, fun _ => 0, ρ⟩ (fun r => ∀ c : Dev nD,
    r.2.mem ((c.tc : Thread nD τ).loc main_v0) = (dats m 0 c).arrAt 5 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun r h c => ⟨(h.1 c).1 5, h.2 c⟩) (θ_run_and (run_main m ρ) (unchanged m ρ))

end Reference

open Cert.KernelIdeal in
/-- The kernel's array is the routed product of its arguments. -/
theorem kernel_routed (m : (ℓ : Loc nD τ sig) → Buf (Elt Ideal) ℓ) (hO : Run.Good m) (hs : Count.sumTo (ns m) 3 = 32768) (c : Dev nD)
    (hs' : Count.sumTo (Sizes.nat (m ((c.tc : Thread nD τ).loc main_arg4))) 3 = 32768) :
    Run.result m hO c = routed (m ((c.tc : Thread nD τ).loc main_arg4)) hs' (m ((c.tc : Thread nD τ).loc main_arg0)) (m ((c.tc : Thread nD τ).loc main_arg1)) (m ((c.tc : Thread nD τ).loc main_arg2)) (m ((c.tc : Thread nD τ).loc main_arg3)) := by
  obtain rfl : c = 0 := Subsingleton.elim _ _
  exact Run.result_eq m hO hs 0

theorem algebraic : Cert.algebraic_KernelIdeal_ReferenceIdeal := by
  intro m g m' g' hpre hargs
  have hs : Count.sumTo (ns m) 3 = 32768 := Cert.KernelIdeal.Frames.sum_of Ideal m hpre
  have hO := Cert.KernelIdeal.Run.good m hs
  refine ⟨fun c => Cert.KernelIdeal.Run.result m hO c, Cert.KernelIdeal.Run.value_of m g hO, ?_⟩
  refine (θ_run Cert.ReferenceIdeal.defs _ _).mono (fun r h c => ⟨(h c).1.trans ?_, (h c).2⟩) (reference_run m' g')
  obtain ⟨h0, h1, h2, h3, h4⟩ := hargs c
  have hs1 : Count.sumTo (Cert.KernelIdeal.Sizes.nat (m ((c.tc : Thread Cert.KernelIdeal.nD Cert.KernelIdeal.τ).loc Cert.KernelIdeal.main_arg4))) 3 = 32768 := by
    obtain rfl : c = 0 := Subsingleton.elim _ _
    exact hs
  have hs2 : Count.sumTo (Cert.KernelIdeal.Sizes.nat (m' ((c.tc : Thread Cert.ReferenceIdeal.nD Cert.ReferenceIdeal.τ).loc Cert.ReferenceIdeal.main_arg4))) 3 = 32768 := by
    rw [h4]; exact hs1
  refine (Cert.ReferenceIdeal.Value.final m' c hs2).trans (Eq.trans ?_ (kernel_routed m hO hs c hs1).symm)
  congr 1

end Cert.Equation

end
-- ==== Proof.lean ====
module

public import proofs.«01_k».proof.Defs
public import proofs.«01_k».proof.Proof.Frames
public import proofs.«01_k».proof.Proof.Equation

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_sizes_ok.Gen.facts,
  Cert.KernelIdeal.Frames.kernel, Cert.KernelIdeal.Frames.kernelIdeal,
  fun m ρ _ => Cert.ReferenceIdeal.Gen.frame m ρ, fun m ρ _ => Cert.ReferenceIdeal.Gen.frame m ρ,
  trivial, Cert.Equation.algebraic⟩

end Cert.Proof

end
